-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S16x64x1024 : Shape := ⟨3, ![16, 64, 1024]⟩
abbrev S15x64x1024 : Shape := ⟨3, ![15, 64, 1024]⟩
abbrev S15 : Shape := ⟨1, ![15]⟩
abbrev S_ : Shape := ⟨0, ![]⟩
abbrev S1x64x1024 : Shape := ⟨3, ![1, 64, 1024]⟩
abbrev S1 : Shape := ⟨1, ![1]⟩
abbrev S4x64x1024 : Shape := ⟨3, ![4, 64, 1024]⟩
abbrev S256x1024 : Shape := ⟨2, ![256, 1024]⟩
abbrev S256x2048 : Shape := ⟨2, ![256, 2048]⟩

abbrev nBuf : Space → Nat
  | .hbm => 8
  | .vmem => 12
  | .smem => 0
  | _ => 0

abbrev bufTy : (tb : Table) → Fin (tcTables nBuf tb) → BufTy
  | .hbm, ⟨0, _⟩ => ⟨S64x1024, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S64x1024, .f32⟩
  | .local _ .vmem, ⟨0, _⟩ => ⟨S64x1024, .bf16⟩
  | .local _ .vmem, ⟨1, _⟩ => ⟨S1024x2048, .bf16⟩
  | .local _ .vmem, ⟨2, _⟩ => ⟨S2048x1024, .bf16⟩
  | .local _ .vmem, ⟨3, _⟩ => ⟨S1024x2048, .bf16⟩
  | .local _ .vmem, ⟨4, _⟩ => ⟨S2048x1024, .bf16⟩
  | .local _ .vmem, ⟨5, _⟩ => ⟨S1024x2048, .bf16⟩
  | .local _ .vmem, ⟨6, _⟩ => ⟨S2048x1024, .bf16⟩
  | .local _ .vmem, ⟨7, _⟩ => ⟨S64x1024, .f32⟩
  | .local _ .vmem, ⟨8, _⟩ => ⟨S16x64x1024, .bf16⟩
  | .local _ .vmem, ⟨9, _⟩ => ⟨S16x64x1024, .f32⟩
  | .local _ .vmem, ⟨10, _⟩ => ⟨S16x64x1024, .bf16⟩
  | .local _ .vmem, ⟨11, _⟩ => ⟨S15x64x1024, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v7 : BitVec 32 := Scalar.addi v2 c1_i32_3
  let c16_i32_4 : BitVec 32 := 16#32
  let v8 : BitVec 32 := Scalar.remsi v7 c16_i32_4
  let c1_i32_6 : BitVec 32 := 1#32
  let v9 : BitVec 32 := Scalar.muli v8 c1_i32_6
  let v10 : BitVec 32 := Scalar.addi c0_i32 v9
  v10.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v11 : BitVec 32 := Scalar.addi v2 c2_i32
  let c16_i32_7 : BitVec 32 := 16#32
  let v12 : BitVec 32 := Scalar.remsi v11 c16_i32_7
  let c1_i32_9 : BitVec 32 := 1#32
  let v13 : BitVec 32 := Scalar.muli v12 c1_i32_9
  let v14 : BitVec 32 := Scalar.addi c0_i32_10 v13
  v14.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v15 : BitVec 32 := Scalar.addi v2 c3_i32
  let c16_i32_11 : BitVec 32 := 16#32
  let v16 : BitVec 32 := Scalar.remsi v15 c16_i32_11
  let c1_i32_13 : BitVec 32 := 1#32
  let v17 : BitVec 32 := Scalar.muli v16 c1_i32_13
  let v18 : BitVec 32 := Scalar.addi c0_i32_14 v17
  v18.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v19 : BitVec 32 := Scalar.addi v2 c4_i32
  let c16_i32_15 : BitVec 32 := 16#32
  let v20 : BitVec 32 := Scalar.remsi v19 c16_i32_15
  let c1_i32_17 : BitVec 32 := 1#32
  let v21 : BitVec 32 := Scalar.muli v20 c1_i32_17
  let v22 : BitVec 32 := Scalar.addi c0_i32_18 v21
  v22.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v23 : BitVec 32 := Scalar.addi v2 c5_i32
  let c16_i32_19 : BitVec 32 := 16#32
  let v24 : BitVec 32 := Scalar.remsi v23 c16_i32_19
  let c1_i32_21 : BitVec 32 := 1#32
  let v25 : BitVec 32 := Scalar.muli v24 c1_i32_21
  let v26 : BitVec 32 := Scalar.addi c0_i32_22 v25
  v26.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v27 : BitVec 32 := Scalar.addi v2 c6_i32
  let c16_i32_23 : BitVec 32 := 16#32
  let v28 : BitVec 32 := Scalar.remsi v27 c16_i32_23
  let c1_i32_25 : BitVec 32 := 1#32
  let v29 : BitVec 32 := Scalar.muli v28 c1_i32_25
  let v30 : BitVec 32 := Scalar.addi c0_i32_26 v29
  v30.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v31 : BitVec 32 := Scalar.addi v2 c7_i32
  let c16_i32_27 : BitVec 32 := 16#32
  let v32 : BitVec 32 := Scalar.remsi v31 c16_i32_27
  let c1_i32_29 : BitVec 32 := 1#32
  let v33 : BitVec 32 := Scalar.muli v32 c1_i32_29
  let v34 : BitVec 32 := Scalar.addi c0_i32_30 v33
  v34.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v35 : BitVec 32 := Scalar.addi v2 c8_i32
  let c16_i32_31 : BitVec 32 := 16#32
  let v36 : BitVec 32 := Scalar.remsi v35 c16_i32_31
  let c1_i32_33 : BitVec 32 := 1#32
  let v37 : BitVec 32 := Scalar.muli v36 c1_i32_33
  let v38 : BitVec 32 := Scalar.addi c0_i32_34 v37
  v38.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v39 : BitVec 32 := Scalar.addi v2 c9_i32
  let c16_i32_35 : BitVec 32 := 16#32
  let v40 : BitVec 32 := Scalar.remsi v39 c16_i32_35
  let c1_i32_37 : BitVec 32 := 1#32
  let v41 : BitVec 32 := Scalar.muli v40 c1_i32_37
  let v42 : BitVec 32 := Scalar.addi c0_i32_38 v41
  v42.toNat
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v43 : BitVec 32 := Scalar.addi v2 c10_i32
  let c16_i32_39 : BitVec 32 := 16#32
  let v44 : BitVec 32 := Scalar.remsi v43 c16_i32_39
  let c1_i32_41 : BitVec 32 := 1#32
  let v45 : BitVec 32 := Scalar.muli v44 c1_i32_41
  let v46 : BitVec 32 := Scalar.addi c0_i32_42 v45
  v46.toNat
def k0_dev11 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v47 : BitVec 32 := Scalar.addi v2 c11_i32
  let c16_i32_43 : BitVec 32 := 16#32
  let v48 : BitVec 32 := Scalar.remsi v47 c16_i32_43
  let c1_i32_45 : BitVec 32 := 1#32
  let v49 : BitVec 32 := Scalar.muli v48 c1_i32_45
  let v50 : BitVec 32 := Scalar.addi c0_i32_46 v49
  v50.toNat
def k0_dev12 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v51 : BitVec 32 := Scalar.addi v2 c12_i32
  let c16_i32_47 : BitVec 32 := 16#32
  let v52 : BitVec 32 := Scalar.remsi v51 c16_i32_47
  let c1_i32_49 : BitVec 32 := 1#32
  let v53 : BitVec 32 := Scalar.muli v52 c1_i32_49
  let v54 : BitVec 32 := Scalar.addi c0_i32_50 v53
  v54.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v55 : BitVec 32 := Scalar.addi v2 c13_i32
  let c16_i32_51 : BitVec 32 := 16#32
  let v56 : BitVec 32 := Scalar.remsi v55 c16_i32_51
  let c1_i32_53 : BitVec 32 := 1#32
  let v57 : BitVec 32 := Scalar.muli v56 c1_i32_53
  let v58 : BitVec 32 := Scalar.addi c0_i32_54 v57
  v58.toNat
def k0_dev14 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v59 : BitVec 32 := Scalar.addi v2 c14_i32
  let c16_i32_55 : BitVec 32 := 16#32
  let v60 : BitVec 32 := Scalar.remsi v59 c16_i32_55
  let c1_i32_57 : BitVec 32 := 1#32
  let v61 : BitVec 32 := Scalar.muli v60 c1_i32_57
  let v62 : BitVec 32 := Scalar.addi c0_i32_58 v61
  v62.toNat
def k0_dev15 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v63 : BitVec 32 := Scalar.addi v2 c15_i32
  let c16_i32_59 : BitVec 32 := 16#32
  let v64 : BitVec 32 := Scalar.remsi v63 c16_i32_59
  let c1_i32_61 : BitVec 32 := 1#32
  let v65 : BitVec 32 := Scalar.muli v64 c1_i32_61
  let v66 : BitVec 32 := Scalar.addi c0_i32_62 v65
  v66.toNat
def k0_dev16 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_68 : BitVec 32 := 1#32
  let v72 : BitVec 32 := Scalar.addi v2 c1_i32_68
  let c16_i32_69 : BitVec 32 := 16#32
  let v73 : BitVec 32 := Scalar.remsi v72 c16_i32_69
  let c1_i32_74 : BitVec 32 := 1#32
  let v74 : BitVec 32 := Scalar.muli v73 c1_i32_74
  let v75 : BitVec 32 := Scalar.addi c0_i32_75 v74
  v75.toNat
def k0_dev17 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v84 : BitVec 32 := Scalar.addi v2 c2_i32_80
  let c16_i32_81 : BitVec 32 := 16#32
  let v85 : BitVec 32 := Scalar.remsi v84 c16_i32_81
  let c1_i32_86 : BitVec 32 := 1#32
  let v86 : BitVec 32 := Scalar.muli v85 c1_i32_86
  let v87 : BitVec 32 := Scalar.addi c0_i32_87 v86
  v87.toNat
def k0_dev18 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_92 : BitVec 32 := 3#32
  let v96 : BitVec 32 := Scalar.addi v2 c3_i32_92
  let c16_i32_93 : BitVec 32 := 16#32
  let v97 : BitVec 32 := Scalar.remsi v96 c16_i32_93
  let c1_i32_98 : BitVec 32 := 1#32
  let v98 : BitVec 32 := Scalar.muli v97 c1_i32_98
  let v99 : BitVec 32 := Scalar.addi c0_i32_99 v98
  v99.toNat
def k0_dev19 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_104 : BitVec 32 := 4#32
  let v108 : BitVec 32 := Scalar.addi v2 c4_i32_104
  let c16_i32_105 : BitVec 32 := 16#32
  let v109 : BitVec 32 := Scalar.remsi v108 c16_i32_105
  let c1_i32_110 : BitVec 32 := 1#32
  let v110 : BitVec 32 := Scalar.muli v109 c1_i32_110
  let v111 : BitVec 32 := Scalar.addi c0_i32_111 v110
  v111.toNat
def k0_dev20 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_116 : BitVec 32 := 5#32
  let v120 : BitVec 32 := Scalar.addi v2 c5_i32_116
  let c16_i32_117 : BitVec 32 := 16#32
  let v121 : BitVec 32 := Scalar.remsi v120 c16_i32_117
  let c1_i32_122 : BitVec 32 := 1#32
  let v122 : BitVec 32 := Scalar.muli v121 c1_i32_122
  let v123 : BitVec 32 := Scalar.addi c0_i32_123 v122
  v123.toNat
def k0_dev21 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_128 : BitVec 32 := 6#32
  let v132 : BitVec 32 := Scalar.addi v2 c6_i32_128
  let c16_i32_129 : BitVec 32 := 16#32
  let v133 : BitVec 32 := Scalar.remsi v132 c16_i32_129
  let c1_i32_134 : BitVec 32 := 1#32
  let v134 : BitVec 32 := Scalar.muli v133 c1_i32_134
  let v135 : BitVec 32 := Scalar.addi c0_i32_135 v134
  v135.toNat
def k0_dev22 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_140 : BitVec 32 := 7#32
  let v144 : BitVec 32 := Scalar.addi v2 c7_i32_140
  let c16_i32_141 : BitVec 32 := 16#32
  let v145 : BitVec 32 := Scalar.remsi v144 c16_i32_141
  let c1_i32_146 : BitVec 32 := 1#32
  let v146 : BitVec 32 := Scalar.muli v145 c1_i32_146
  let v147 : BitVec 32 := Scalar.addi c0_i32_147 v146
  v147.toNat
def k0_dev23 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_152 : BitVec 32 := 8#32
  let v156 : BitVec 32 := Scalar.addi v2 c8_i32_152
  let c16_i32_153 : BitVec 32 := 16#32
  let v157 : BitVec 32 := Scalar.remsi v156 c16_i32_153
  let c1_i32_158 : BitVec 32 := 1#32
  let v158 : BitVec 32 := Scalar.muli v157 c1_i32_158
  let v159 : BitVec 32 := Scalar.addi c0_i32_159 v158
  v159.toNat
def k0_dev24 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_164 : BitVec 32 := 9#32
  let v168 : BitVec 32 := Scalar.addi v2 c9_i32_164
  let c16_i32_165 : BitVec 32 := 16#32
  let v169 : BitVec 32 := Scalar.remsi v168 c16_i32_165
  let c1_i32_170 : BitVec 32 := 1#32
  let v170 : BitVec 32 := Scalar.muli v169 c1_i32_170
  let v171 : BitVec 32 := Scalar.addi c0_i32_171 v170
  v171.toNat
def k0_dev25 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_176 : BitVec 32 := 10#32
  let v180 : BitVec 32 := Scalar.addi v2 c10_i32_176
  let c16_i32_177 : BitVec 32 := 16#32
  let v181 : BitVec 32 := Scalar.remsi v180 c16_i32_177
  let c1_i32_182 : BitVec 32 := 1#32
  let v182 : BitVec 32 := Scalar.muli v181 c1_i32_182
  let v183 : BitVec 32 := Scalar.addi c0_i32_183 v182
  v183.toNat
def k0_dev26 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_188 : BitVec 32 := 11#32
  let v192 : BitVec 32 := Scalar.addi v2 c11_i32_188
  let c16_i32_189 : BitVec 32 := 16#32
  let v193 : BitVec 32 := Scalar.remsi v192 c16_i32_189
  let c1_i32_194 : BitVec 32 := 1#32
  let v194 : BitVec 32 := Scalar.muli v193 c1_i32_194
  let v195 : BitVec 32 := Scalar.addi c0_i32_195 v194
  v195.toNat
def k0_dev27 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_200 : BitVec 32 := 12#32
  let v204 : BitVec 32 := Scalar.addi v2 c12_i32_200
  let c16_i32_201 : BitVec 32 := 16#32
  let v205 : BitVec 32 := Scalar.remsi v204 c16_i32_201
  let c1_i32_206 : BitVec 32 := 1#32
  let v206 : BitVec 32 := Scalar.muli v205 c1_i32_206
  let v207 : BitVec 32 := Scalar.addi c0_i32_207 v206
  v207.toNat
def k0_dev28 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_212 : BitVec 32 := 13#32
  let v216 : BitVec 32 := Scalar.addi v2 c13_i32_212
  let c16_i32_213 : BitVec 32 := 16#32
  let v217 : BitVec 32 := Scalar.remsi v216 c16_i32_213
  let c1_i32_218 : BitVec 32 := 1#32
  let v218 : BitVec 32 := Scalar.muli v217 c1_i32_218
  let v219 : BitVec 32 := Scalar.addi c0_i32_219 v218
  v219.toNat
def k0_dev29 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_224 : BitVec 32 := 14#32
  let v228 : BitVec 32 := Scalar.addi v2 c14_i32_224
  let c16_i32_225 : BitVec 32 := 16#32
  let v229 : BitVec 32 := Scalar.remsi v228 c16_i32_225
  let c1_i32_230 : BitVec 32 := 1#32
  let v230 : BitVec 32 := Scalar.muli v229 c1_i32_230
  let v231 : BitVec 32 := Scalar.addi c0_i32_231 v230
  v231.toNat
def k0_dev30 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_236 : BitVec 32 := 15#32
  let v240 : BitVec 32 := Scalar.addi v2 c15_i32_236
  let c16_i32_237 : BitVec 32 := 16#32
  let v241 : BitVec 32 := Scalar.remsi v240 c16_i32_237
  let c1_i32_242 : BitVec 32 := 1#32
  let v242 : BitVec 32 := Scalar.muli v241 c1_i32_242
  let v243 : BitVec 32 := Scalar.addi c0_i32_243 v242
  v243.toNat
def k0_dev31 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_548 : BitVec 32 := 1#32
  let v482 : BitVec 32 := Scalar.subi v2 c1_i32_548
  let c16_i32_549 : BitVec 32 := 16#32
  let v483 : BitVec 32 := Scalar.addi v482 c16_i32_549
  let c16_i32_550 : BitVec 32 := 16#32
  let v484 : BitVec 32 := Scalar.remsi v483 c16_i32_550
  let c1_i32_555 : BitVec 32 := 1#32
  let v485 : BitVec 32 := Scalar.muli v484 c1_i32_555
  let v486 : BitVec 32 := Scalar.addi c0_i32_556 v485
  v486.toNat
def k0_dev32 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_561 : BitVec 32 := 2#32
  let v495 : BitVec 32 := Scalar.subi v2 c2_i32_561
  let c16_i32_562 : BitVec 32 := 16#32
  let v496 : BitVec 32 := Scalar.addi v495 c16_i32_562
  let c16_i32_563 : BitVec 32 := 16#32
  let v497 : BitVec 32 := Scalar.remsi v496 c16_i32_563
  let c1_i32_568 : BitVec 32 := 1#32
  let v498 : BitVec 32 := Scalar.muli v497 c1_i32_568
  let v499 : BitVec 32 := Scalar.addi c0_i32_569 v498
  v499.toNat
def k0_dev33 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_574 : BitVec 32 := 3#32
  let v508 : BitVec 32 := Scalar.subi v2 c3_i32_574
  let c16_i32_575 : BitVec 32 := 16#32
  let v509 : BitVec 32 := Scalar.addi v508 c16_i32_575
  let c16_i32_576 : BitVec 32 := 16#32
  let v510 : BitVec 32 := Scalar.remsi v509 c16_i32_576
  let c1_i32_581 : BitVec 32 := 1#32
  let v511 : BitVec 32 := Scalar.muli v510 c1_i32_581
  let v512 : BitVec 32 := Scalar.addi c0_i32_582 v511
  v512.toNat
def k0_dev34 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_602 : BitVec 32 := 4#32
  let v541 : BitVec 32 := Scalar.subi v2 c4_i32_602
  let c16_i32_603 : BitVec 32 := 16#32
  let v542 : BitVec 32 := Scalar.addi v541 c16_i32_603
  let c16_i32_604 : BitVec 32 := 16#32
  let v543 : BitVec 32 := Scalar.remsi v542 c16_i32_604
  let c1_i32_609 : BitVec 32 := 1#32
  let v544 : BitVec 32 := Scalar.muli v543 c1_i32_609
  let v545 : BitVec 32 := Scalar.addi c0_i32_610 v544
  v545.toNat
def k0_dev35 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_615 : BitVec 32 := 5#32
  let v554 : BitVec 32 := Scalar.subi v2 c5_i32_615
  let c16_i32_616 : BitVec 32 := 16#32
  let v555 : BitVec 32 := Scalar.addi v554 c16_i32_616
  let c16_i32_617 : BitVec 32 := 16#32
  let v556 : BitVec 32 := Scalar.remsi v555 c16_i32_617
  let c1_i32_622 : BitVec 32 := 1#32
  let v557 : BitVec 32 := Scalar.muli v556 c1_i32_622
  let v558 : BitVec 32 := Scalar.addi c0_i32_623 v557
  v558.toNat
def k0_dev36 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_628 : BitVec 32 := 6#32
  let v567 : BitVec 32 := Scalar.subi v2 c6_i32_628
  let c16_i32_629 : BitVec 32 := 16#32
  let v568 : BitVec 32 := Scalar.addi v567 c16_i32_629
  let c16_i32_630 : BitVec 32 := 16#32
  let v569 : BitVec 32 := Scalar.remsi v568 c16_i32_630
  let c1_i32_635 : BitVec 32 := 1#32
  let v570 : BitVec 32 := Scalar.muli v569 c1_i32_635
  let v571 : BitVec 32 := Scalar.addi c0_i32_636 v570
  v571.toNat
def k0_dev37 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_641 : BitVec 32 := 7#32
  let v580 : BitVec 32 := Scalar.subi v2 c7_i32_641
  let c16_i32_642 : BitVec 32 := 16#32
  let v581 : BitVec 32 := Scalar.addi v580 c16_i32_642
  let c16_i32_643 : BitVec 32 := 16#32
  let v582 : BitVec 32 := Scalar.remsi v581 c16_i32_643
  let c1_i32_648 : BitVec 32 := 1#32
  let v583 : BitVec 32 := Scalar.muli v582 c1_i32_648
  let v584 : BitVec 32 := Scalar.addi c0_i32_649 v583
  v584.toNat
def k0_dev38 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_669 : BitVec 32 := 8#32
  let v613 : BitVec 32 := Scalar.subi v2 c8_i32_669
  let c16_i32_670 : BitVec 32 := 16#32
  let v614 : BitVec 32 := Scalar.addi v613 c16_i32_670
  let c16_i32_671 : BitVec 32 := 16#32
  let v615 : BitVec 32 := Scalar.remsi v614 c16_i32_671
  let c1_i32_676 : BitVec 32 := 1#32
  let v616 : BitVec 32 := Scalar.muli v615 c1_i32_676
  let v617 : BitVec 32 := Scalar.addi c0_i32_677 v616
  v617.toNat
def k0_dev39 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_682 : BitVec 32 := 9#32
  let v626 : BitVec 32 := Scalar.subi v2 c9_i32_682
  let c16_i32_683 : BitVec 32 := 16#32
  let v627 : BitVec 32 := Scalar.addi v626 c16_i32_683
  let c16_i32_684 : BitVec 32 := 16#32
  let v628 : BitVec 32 := Scalar.remsi v627 c16_i32_684
  let c1_i32_689 : BitVec 32 := 1#32
  let v629 : BitVec 32 := Scalar.muli v628 c1_i32_689
  let v630 : BitVec 32 := Scalar.addi c0_i32_690 v629
  v630.toNat
def k0_dev40 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_695 : BitVec 32 := 10#32
  let v639 : BitVec 32 := Scalar.subi v2 c10_i32_695
  let c16_i32_696 : BitVec 32 := 16#32
  let v640 : BitVec 32 := Scalar.addi v639 c16_i32_696
  let c16_i32_697 : BitVec 32 := 16#32
  let v641 : BitVec 32 := Scalar.remsi v640 c16_i32_697
  let c1_i32_702 : BitVec 32 := 1#32
  let v642 : BitVec 32 := Scalar.muli v641 c1_i32_702
  let v643 : BitVec 32 := Scalar.addi c0_i32_703 v642
  v643.toNat
def k0_dev41 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_708 : BitVec 32 := 11#32
  let v652 : BitVec 32 := Scalar.subi v2 c11_i32_708
  let c16_i32_709 : BitVec 32 := 16#32
  let v653 : BitVec 32 := Scalar.addi v652 c16_i32_709
  let c16_i32_710 : BitVec 32 := 16#32
  let v654 : BitVec 32 := Scalar.remsi v653 c16_i32_710
  let c1_i32_715 : BitVec 32 := 1#32
  let v655 : BitVec 32 := Scalar.muli v654 c1_i32_715
  let v656 : BitVec 32 := Scalar.addi c0_i32_716 v655
  v656.toNat
def k0_dev42 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_736 : BitVec 32 := 12#32
  let v685 : BitVec 32 := Scalar.subi v2 c12_i32_736
  let c16_i32_737 : BitVec 32 := 16#32
  let v686 : BitVec 32 := Scalar.addi v685 c16_i32_737
  let c16_i32_738 : BitVec 32 := 16#32
  let v687 : BitVec 32 := Scalar.remsi v686 c16_i32_738
  let c1_i32_743 : BitVec 32 := 1#32
  let v688 : BitVec 32 := Scalar.muli v687 c1_i32_743
  let v689 : BitVec 32 := Scalar.addi c0_i32_744 v688
  v689.toNat
def k0_dev43 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_749 : BitVec 32 := 13#32
  let v698 : BitVec 32 := Scalar.subi v2 c13_i32_749
  let c16_i32_750 : BitVec 32 := 16#32
  let v699 : BitVec 32 := Scalar.addi v698 c16_i32_750
  let c16_i32_751 : BitVec 32 := 16#32
  let v700 : BitVec 32 := Scalar.remsi v699 c16_i32_751
  let c1_i32_756 : BitVec 32 := 1#32
  let v701 : BitVec 32 := Scalar.muli v700 c1_i32_756
  let v702 : BitVec 32 := Scalar.addi c0_i32_757 v701
  v702.toNat
def k0_dev44 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_762 : BitVec 32 := 14#32
  let v711 : BitVec 32 := Scalar.subi v2 c14_i32_762
  let c16_i32_763 : BitVec 32 := 16#32
  let v712 : BitVec 32 := Scalar.addi v711 c16_i32_763
  let c16_i32_764 : BitVec 32 := 16#32
  let v713 : BitVec 32 := Scalar.remsi v712 c16_i32_764
  let c1_i32_769 : BitVec 32 := 1#32
  let v714 : BitVec 32 := Scalar.muli v713 c1_i32_769
  let v715 : BitVec 32 := Scalar.addi c0_i32_770 v714
  v715.toNat
def k0_dev45 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_775 : BitVec 32 := 15#32
  let v724 : BitVec 32 := Scalar.subi v2 c15_i32_775
  let c16_i32_776 : BitVec 32 := 16#32
  let v725 : BitVec 32 := Scalar.addi v724 c16_i32_776
  let c16_i32_777 : BitVec 32 := 16#32
  let v726 : BitVec 32 := Scalar.remsi v725 c16_i32_777
  let c1_i32_782 : BitVec 32 := 1#32
  let v727 : BitVec 32 := Scalar.muli v726 c1_i32_782
  let v728 : BitVec 32 := Scalar.addi c0_i32_783 v727
  v728.toNat
def k0_dev46 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1113 : BitVec 32 := 1#32
  let v1013 : BitVec 32 := Scalar.addi v2 c1_i32_1113
  let c16_i32_1114 : BitVec 32 := 16#32
  let v1014 : BitVec 32 := Scalar.remsi v1013 c16_i32_1114
  let c1_i32_1119 : BitVec 32 := 1#32
  let v1015 : BitVec 32 := Scalar.muli v1014 c1_i32_1119
  let v1016 : BitVec 32 := Scalar.addi c0_i32_1120 v1015
  v1016.toNat
def k0_dev47 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1125 : BitVec 32 := 2#32
  let v1025 : BitVec 32 := Scalar.addi v2 c2_i32_1125
  let c16_i32_1126 : BitVec 32 := 16#32
  let v1026 : BitVec 32 := Scalar.remsi v1025 c16_i32_1126
  let c1_i32_1131 : BitVec 32 := 1#32
  let v1027 : BitVec 32 := Scalar.muli v1026 c1_i32_1131
  let v1028 : BitVec 32 := Scalar.addi c0_i32_1132 v1027
  v1028.toNat
def k0_dev48 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1137 : BitVec 32 := 3#32
  let v1037 : BitVec 32 := Scalar.addi v2 c3_i32_1137
  let c16_i32_1138 : BitVec 32 := 16#32
  let v1038 : BitVec 32 := Scalar.remsi v1037 c16_i32_1138
  let c1_i32_1143 : BitVec 32 := 1#32
  let v1039 : BitVec 32 := Scalar.muli v1038 c1_i32_1143
  let v1040 : BitVec 32 := Scalar.addi c0_i32_1144 v1039
  v1040.toNat
def k0_dev49 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1149 : BitVec 32 := 4#32
  let v1049 : BitVec 32 := Scalar.addi v2 c4_i32_1149
  let c16_i32_1150 : BitVec 32 := 16#32
  let v1050 : BitVec 32 := Scalar.remsi v1049 c16_i32_1150
  let c1_i32_1155 : BitVec 32 := 1#32
  let v1051 : BitVec 32 := Scalar.muli v1050 c1_i32_1155
  let v1052 : BitVec 32 := Scalar.addi c0_i32_1156 v1051
  v1052.toNat
def k0_dev50 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1161 : BitVec 32 := 5#32
  let v1061 : BitVec 32 := Scalar.addi v2 c5_i32_1161
  let c16_i32_1162 : BitVec 32 := 16#32
  let v1062 : BitVec 32 := Scalar.remsi v1061 c16_i32_1162
  let c1_i32_1167 : BitVec 32 := 1#32
  let v1063 : BitVec 32 := Scalar.muli v1062 c1_i32_1167
  let v1064 : BitVec 32 := Scalar.addi c0_i32_1168 v1063
  v1064.toNat
def k0_dev51 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1173 : BitVec 32 := 6#32
  let v1073 : BitVec 32 := Scalar.addi v2 c6_i32_1173
  let c16_i32_1174 : BitVec 32 := 16#32
  let v1074 : BitVec 32 := Scalar.remsi v1073 c16_i32_1174
  let c1_i32_1179 : BitVec 32 := 1#32
  let v1075 : BitVec 32 := Scalar.muli v1074 c1_i32_1179
  let v1076 : BitVec 32 := Scalar.addi c0_i32_1180 v1075
  v1076.toNat
def k0_dev52 (d0 : Dev nD) : Nat :=
  let c0_i32_1192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1185 : BitVec 32 := 7#32
  let v1085 : BitVec 32 := Scalar.addi v2 c7_i32_1185
  let c16_i32_1186 : BitVec 32 := 16#32
  let v1086 : BitVec 32 := Scalar.remsi v1085 c16_i32_1186
  let c1_i32_1191 : BitVec 32 := 1#32
  let v1087 : BitVec 32 := Scalar.muli v1086 c1_i32_1191
  let v1088 : BitVec 32 := Scalar.addi c0_i32_1192 v1087
  v1088.toNat
def k0_dev53 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1197 : BitVec 32 := 8#32
  let v1097 : BitVec 32 := Scalar.addi v2 c8_i32_1197
  let c16_i32_1198 : BitVec 32 := 16#32
  let v1098 : BitVec 32 := Scalar.remsi v1097 c16_i32_1198
  let c1_i32_1203 : BitVec 32 := 1#32
  let v1099 : BitVec 32 := Scalar.muli v1098 c1_i32_1203
  let v1100 : BitVec 32 := Scalar.addi c0_i32_1204 v1099
  v1100.toNat
def k0_dev54 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1209 : BitVec 32 := 9#32
  let v1109 : BitVec 32 := Scalar.addi v2 c9_i32_1209
  let c16_i32_1210 : BitVec 32 := 16#32
  let v1110 : BitVec 32 := Scalar.remsi v1109 c16_i32_1210
  let c1_i32_1215 : BitVec 32 := 1#32
  let v1111 : BitVec 32 := Scalar.muli v1110 c1_i32_1215
  let v1112 : BitVec 32 := Scalar.addi c0_i32_1216 v1111
  v1112.toNat
def k0_dev55 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1221 : BitVec 32 := 10#32
  let v1121 : BitVec 32 := Scalar.addi v2 c10_i32_1221
  let c16_i32_1222 : BitVec 32 := 16#32
  let v1122 : BitVec 32 := Scalar.remsi v1121 c16_i32_1222
  let c1_i32_1227 : BitVec 32 := 1#32
  let v1123 : BitVec 32 := Scalar.muli v1122 c1_i32_1227
  let v1124 : BitVec 32 := Scalar.addi c0_i32_1228 v1123
  v1124.toNat
def k0_dev56 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1233 : BitVec 32 := 11#32
  let v1133 : BitVec 32 := Scalar.addi v2 c11_i32_1233
  let c16_i32_1234 : BitVec 32 := 16#32
  let v1134 : BitVec 32 := Scalar.remsi v1133 c16_i32_1234
  let c1_i32_1239 : BitVec 32 := 1#32
  let v1135 : BitVec 32 := Scalar.muli v1134 c1_i32_1239
  let v1136 : BitVec 32 := Scalar.addi c0_i32_1240 v1135
  v1136.toNat
def k0_dev57 (d0 : Dev nD) : Nat :=
  let c0_i32_1252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1245 : BitVec 32 := 12#32
  let v1145 : BitVec 32 := Scalar.addi v2 c12_i32_1245
  let c16_i32_1246 : BitVec 32 := 16#32
  let v1146 : BitVec 32 := Scalar.remsi v1145 c16_i32_1246
  let c1_i32_1251 : BitVec 32 := 1#32
  let v1147 : BitVec 32 := Scalar.muli v1146 c1_i32_1251
  let v1148 : BitVec 32 := Scalar.addi c0_i32_1252 v1147
  v1148.toNat
def k0_dev58 (d0 : Dev nD) : Nat :=
  let c0_i32_1264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1257 : BitVec 32 := 13#32
  let v1157 : BitVec 32 := Scalar.addi v2 c13_i32_1257
  let c16_i32_1258 : BitVec 32 := 16#32
  let v1158 : BitVec 32 := Scalar.remsi v1157 c16_i32_1258
  let c1_i32_1263 : BitVec 32 := 1#32
  let v1159 : BitVec 32 := Scalar.muli v1158 c1_i32_1263
  let v1160 : BitVec 32 := Scalar.addi c0_i32_1264 v1159
  v1160.toNat
def k0_dev59 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1269 : BitVec 32 := 14#32
  let v1169 : BitVec 32 := Scalar.addi v2 c14_i32_1269
  let c16_i32_1270 : BitVec 32 := 16#32
  let v1170 : BitVec 32 := Scalar.remsi v1169 c16_i32_1270
  let c1_i32_1275 : BitVec 32 := 1#32
  let v1171 : BitVec 32 := Scalar.muli v1170 c1_i32_1275
  let v1172 : BitVec 32 := Scalar.addi c0_i32_1276 v1171
  v1172.toNat
def k0_dev60 (d0 : Dev nD) : Nat :=
  let c0_i32_1288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1281 : BitVec 32 := 15#32
  let v1181 : BitVec 32 := Scalar.addi v2 c15_i32_1281
  let c16_i32_1282 : BitVec 32 := 16#32
  let v1182 : BitVec 32 := Scalar.remsi v1181 c16_i32_1282
  let c1_i32_1287 : BitVec 32 := 1#32
  let v1183 : BitVec 32 := Scalar.muli v1182 c1_i32_1287
  let v1184 : BitVec 32 := Scalar.addi c0_i32_1288 v1183
  v1184.toNat
def k0_dev61 (d0 : Dev nD) : Nat :=
  let c0_i32_1602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1594 : BitVec 32 := 1#32
  let v1423 : BitVec 32 := Scalar.subi v2 c1_i32_1594
  let c16_i32_1595 : BitVec 32 := 16#32
  let v1424 : BitVec 32 := Scalar.addi v1423 c16_i32_1595
  let c16_i32_1596 : BitVec 32 := 16#32
  let v1425 : BitVec 32 := Scalar.remsi v1424 c16_i32_1596
  let c1_i32_1601 : BitVec 32 := 1#32
  let v1426 : BitVec 32 := Scalar.muli v1425 c1_i32_1601
  let v1427 : BitVec 32 := Scalar.addi c0_i32_1602 v1426
  v1427.toNat
def k0_dev62 (d0 : Dev nD) : Nat :=
  let c0_i32_1615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1607 : BitVec 32 := 2#32
  let v1436 : BitVec 32 := Scalar.subi v2 c2_i32_1607
  let c16_i32_1608 : BitVec 32 := 16#32
  let v1437 : BitVec 32 := Scalar.addi v1436 c16_i32_1608
  let c16_i32_1609 : BitVec 32 := 16#32
  let v1438 : BitVec 32 := Scalar.remsi v1437 c16_i32_1609
  let c1_i32_1614 : BitVec 32 := 1#32
  let v1439 : BitVec 32 := Scalar.muli v1438 c1_i32_1614
  let v1440 : BitVec 32 := Scalar.addi c0_i32_1615 v1439
  v1440.toNat
def k0_dev63 (d0 : Dev nD) : Nat :=
  let c0_i32_1628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1620 : BitVec 32 := 3#32
  let v1449 : BitVec 32 := Scalar.subi v2 c3_i32_1620
  let c16_i32_1621 : BitVec 32 := 16#32
  let v1450 : BitVec 32 := Scalar.addi v1449 c16_i32_1621
  let c16_i32_1622 : BitVec 32 := 16#32
  let v1451 : BitVec 32 := Scalar.remsi v1450 c16_i32_1622
  let c1_i32_1627 : BitVec 32 := 1#32
  let v1452 : BitVec 32 := Scalar.muli v1451 c1_i32_1627
  let v1453 : BitVec 32 := Scalar.addi c0_i32_1628 v1452
  v1453.toNat
def k0_dev64 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1649 : BitVec 32 := 4#32
  let v1482 : BitVec 32 := Scalar.subi v2 c4_i32_1649
  let c16_i32_1650 : BitVec 32 := 16#32
  let v1483 : BitVec 32 := Scalar.addi v1482 c16_i32_1650
  let c16_i32_1651 : BitVec 32 := 16#32
  let v1484 : BitVec 32 := Scalar.remsi v1483 c16_i32_1651
  let c1_i32_1656 : BitVec 32 := 1#32
  let v1485 : BitVec 32 := Scalar.muli v1484 c1_i32_1656
  let v1486 : BitVec 32 := Scalar.addi c0_i32_1657 v1485
  v1486.toNat
def k0_dev65 (d0 : Dev nD) : Nat :=
  let c0_i32_1670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1662 : BitVec 32 := 5#32
  let v1495 : BitVec 32 := Scalar.subi v2 c5_i32_1662
  let c16_i32_1663 : BitVec 32 := 16#32
  let v1496 : BitVec 32 := Scalar.addi v1495 c16_i32_1663
  let c16_i32_1664 : BitVec 32 := 16#32
  let v1497 : BitVec 32 := Scalar.remsi v1496 c16_i32_1664
  let c1_i32_1669 : BitVec 32 := 1#32
  let v1498 : BitVec 32 := Scalar.muli v1497 c1_i32_1669
  let v1499 : BitVec 32 := Scalar.addi c0_i32_1670 v1498
  v1499.toNat
def k0_dev66 (d0 : Dev nD) : Nat :=
  let c0_i32_1683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1675 : BitVec 32 := 6#32
  let v1508 : BitVec 32 := Scalar.subi v2 c6_i32_1675
  let c16_i32_1676 : BitVec 32 := 16#32
  let v1509 : BitVec 32 := Scalar.addi v1508 c16_i32_1676
  let c16_i32_1677 : BitVec 32 := 16#32
  let v1510 : BitVec 32 := Scalar.remsi v1509 c16_i32_1677
  let c1_i32_1682 : BitVec 32 := 1#32
  let v1511 : BitVec 32 := Scalar.muli v1510 c1_i32_1682
  let v1512 : BitVec 32 := Scalar.addi c0_i32_1683 v1511
  v1512.toNat
def k0_dev67 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1688 : BitVec 32 := 7#32
  let v1521 : BitVec 32 := Scalar.subi v2 c7_i32_1688
  let c16_i32_1689 : BitVec 32 := 16#32
  let v1522 : BitVec 32 := Scalar.addi v1521 c16_i32_1689
  let c16_i32_1690 : BitVec 32 := 16#32
  let v1523 : BitVec 32 := Scalar.remsi v1522 c16_i32_1690
  let c1_i32_1695 : BitVec 32 := 1#32
  let v1524 : BitVec 32 := Scalar.muli v1523 c1_i32_1695
  let v1525 : BitVec 32 := Scalar.addi c0_i32_1696 v1524
  v1525.toNat
def k0_dev68 (d0 : Dev nD) : Nat :=
  let c0_i32_1725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1717 : BitVec 32 := 8#32
  let v1554 : BitVec 32 := Scalar.subi v2 c8_i32_1717
  let c16_i32_1718 : BitVec 32 := 16#32
  let v1555 : BitVec 32 := Scalar.addi v1554 c16_i32_1718
  let c16_i32_1719 : BitVec 32 := 16#32
  let v1556 : BitVec 32 := Scalar.remsi v1555 c16_i32_1719
  let c1_i32_1724 : BitVec 32 := 1#32
  let v1557 : BitVec 32 := Scalar.muli v1556 c1_i32_1724
  let v1558 : BitVec 32 := Scalar.addi c0_i32_1725 v1557
  v1558.toNat
def k0_dev69 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1730 : BitVec 32 := 9#32
  let v1567 : BitVec 32 := Scalar.subi v2 c9_i32_1730
  let c16_i32_1731 : BitVec 32 := 16#32
  let v1568 : BitVec 32 := Scalar.addi v1567 c16_i32_1731
  let c16_i32_1732 : BitVec 32 := 16#32
  let v1569 : BitVec 32 := Scalar.remsi v1568 c16_i32_1732
  let c1_i32_1737 : BitVec 32 := 1#32
  let v1570 : BitVec 32 := Scalar.muli v1569 c1_i32_1737
  let v1571 : BitVec 32 := Scalar.addi c0_i32_1738 v1570
  v1571.toNat
def k0_dev70 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1743 : BitVec 32 := 10#32
  let v1580 : BitVec 32 := Scalar.subi v2 c10_i32_1743
  let c16_i32_1744 : BitVec 32 := 16#32
  let v1581 : BitVec 32 := Scalar.addi v1580 c16_i32_1744
  let c16_i32_1745 : BitVec 32 := 16#32
  let v1582 : BitVec 32 := Scalar.remsi v1581 c16_i32_1745
  let c1_i32_1750 : BitVec 32 := 1#32
  let v1583 : BitVec 32 := Scalar.muli v1582 c1_i32_1750
  let v1584 : BitVec 32 := Scalar.addi c0_i32_1751 v1583
  v1584.toNat
def k0_dev71 (d0 : Dev nD) : Nat :=
  let c0_i32_1764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1756 : BitVec 32 := 11#32
  let v1593 : BitVec 32 := Scalar.subi v2 c11_i32_1756
  let c16_i32_1757 : BitVec 32 := 16#32
  let v1594 : BitVec 32 := Scalar.addi v1593 c16_i32_1757
  let c16_i32_1758 : BitVec 32 := 16#32
  let v1595 : BitVec 32 := Scalar.remsi v1594 c16_i32_1758
  let c1_i32_1763 : BitVec 32 := 1#32
  let v1596 : BitVec 32 := Scalar.muli v1595 c1_i32_1763
  let v1597 : BitVec 32 := Scalar.addi c0_i32_1764 v1596
  v1597.toNat
def k0_dev72 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1785 : BitVec 32 := 12#32
  let v1626 : BitVec 32 := Scalar.subi v2 c12_i32_1785
  let c16_i32_1786 : BitVec 32 := 16#32
  let v1627 : BitVec 32 := Scalar.addi v1626 c16_i32_1786
  let c16_i32_1787 : BitVec 32 := 16#32
  let v1628 : BitVec 32 := Scalar.remsi v1627 c16_i32_1787
  let c1_i32_1792 : BitVec 32 := 1#32
  let v1629 : BitVec 32 := Scalar.muli v1628 c1_i32_1792
  let v1630 : BitVec 32 := Scalar.addi c0_i32_1793 v1629
  v1630.toNat
def k0_dev73 (d0 : Dev nD) : Nat :=
  let c0_i32_1806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1798 : BitVec 32 := 13#32
  let v1639 : BitVec 32 := Scalar.subi v2 c13_i32_1798
  let c16_i32_1799 : BitVec 32 := 16#32
  let v1640 : BitVec 32 := Scalar.addi v1639 c16_i32_1799
  let c16_i32_1800 : BitVec 32 := 16#32
  let v1641 : BitVec 32 := Scalar.remsi v1640 c16_i32_1800
  let c1_i32_1805 : BitVec 32 := 1#32
  let v1642 : BitVec 32 := Scalar.muli v1641 c1_i32_1805
  let v1643 : BitVec 32 := Scalar.addi c0_i32_1806 v1642
  v1643.toNat
def k0_dev74 (d0 : Dev nD) : Nat :=
  let c0_i32_1819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1811 : BitVec 32 := 14#32
  let v1652 : BitVec 32 := Scalar.subi v2 c14_i32_1811
  let c16_i32_1812 : BitVec 32 := 16#32
  let v1653 : BitVec 32 := Scalar.addi v1652 c16_i32_1812
  let c16_i32_1813 : BitVec 32 := 16#32
  let v1654 : BitVec 32 := Scalar.remsi v1653 c16_i32_1813
  let c1_i32_1818 : BitVec 32 := 1#32
  let v1655 : BitVec 32 := Scalar.muli v1654 c1_i32_1818
  let v1656 : BitVec 32 := Scalar.addi c0_i32_1819 v1655
  v1656.toNat
def k0_dev75 (d0 : Dev nD) : Nat :=
  let c0_i32_1832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1824 : BitVec 32 := 15#32
  let v1665 : BitVec 32 := Scalar.subi v2 c15_i32_1824
  let c16_i32_1825 : BitVec 32 := 16#32
  let v1666 : BitVec 32 := Scalar.addi v1665 c16_i32_1825
  let c16_i32_1826 : BitVec 32 := 16#32
  let v1667 : BitVec 32 := Scalar.remsi v1666 c16_i32_1826
  let c1_i32_1831 : BitVec 32 := 1#32
  let v1668 : BitVec 32 := Scalar.muli v1667 c1_i32_1831
  let v1669 : BitVec 32 := Scalar.addi c0_i32_1832 v1668
  v1669.toNat
def k0_dev76 (d0 : Dev nD) : Nat :=
  let c0_i32_2180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2173 : BitVec 32 := 1#32
  let v1954 : BitVec 32 := Scalar.addi v2 c1_i32_2173
  let c16_i32_2174 : BitVec 32 := 16#32
  let v1955 : BitVec 32 := Scalar.remsi v1954 c16_i32_2174
  let c1_i32_2179 : BitVec 32 := 1#32
  let v1956 : BitVec 32 := Scalar.muli v1955 c1_i32_2179
  let v1957 : BitVec 32 := Scalar.addi c0_i32_2180 v1956
  v1957.toNat
def k0_dev77 (d0 : Dev nD) : Nat :=
  let c0_i32_2192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2185 : BitVec 32 := 2#32
  let v1966 : BitVec 32 := Scalar.addi v2 c2_i32_2185
  let c16_i32_2186 : BitVec 32 := 16#32
  let v1967 : BitVec 32 := Scalar.remsi v1966 c16_i32_2186
  let c1_i32_2191 : BitVec 32 := 1#32
  let v1968 : BitVec 32 := Scalar.muli v1967 c1_i32_2191
  let v1969 : BitVec 32 := Scalar.addi c0_i32_2192 v1968
  v1969.toNat
def k0_dev78 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2197 : BitVec 32 := 3#32
  let v1978 : BitVec 32 := Scalar.addi v2 c3_i32_2197
  let c16_i32_2198 : BitVec 32 := 16#32
  let v1979 : BitVec 32 := Scalar.remsi v1978 c16_i32_2198
  let c1_i32_2203 : BitVec 32 := 1#32
  let v1980 : BitVec 32 := Scalar.muli v1979 c1_i32_2203
  let v1981 : BitVec 32 := Scalar.addi c0_i32_2204 v1980
  v1981.toNat
def k0_dev79 (d0 : Dev nD) : Nat :=
  let c0_i32_2216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2209 : BitVec 32 := 4#32
  let v1990 : BitVec 32 := Scalar.addi v2 c4_i32_2209
  let c16_i32_2210 : BitVec 32 := 16#32
  let v1991 : BitVec 32 := Scalar.remsi v1990 c16_i32_2210
  let c1_i32_2215 : BitVec 32 := 1#32
  let v1992 : BitVec 32 := Scalar.muli v1991 c1_i32_2215
  let v1993 : BitVec 32 := Scalar.addi c0_i32_2216 v1992
  v1993.toNat
def k0_dev80 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2221 : BitVec 32 := 5#32
  let v2002 : BitVec 32 := Scalar.addi v2 c5_i32_2221
  let c16_i32_2222 : BitVec 32 := 16#32
  let v2003 : BitVec 32 := Scalar.remsi v2002 c16_i32_2222
  let c1_i32_2227 : BitVec 32 := 1#32
  let v2004 : BitVec 32 := Scalar.muli v2003 c1_i32_2227
  let v2005 : BitVec 32 := Scalar.addi c0_i32_2228 v2004
  v2005.toNat
def k0_dev81 (d0 : Dev nD) : Nat :=
  let c0_i32_2240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2233 : BitVec 32 := 6#32
  let v2014 : BitVec 32 := Scalar.addi v2 c6_i32_2233
  let c16_i32_2234 : BitVec 32 := 16#32
  let v2015 : BitVec 32 := Scalar.remsi v2014 c16_i32_2234
  let c1_i32_2239 : BitVec 32 := 1#32
  let v2016 : BitVec 32 := Scalar.muli v2015 c1_i32_2239
  let v2017 : BitVec 32 := Scalar.addi c0_i32_2240 v2016
  v2017.toNat
def k0_dev82 (d0 : Dev nD) : Nat :=
  let c0_i32_2252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2245 : BitVec 32 := 7#32
  let v2026 : BitVec 32 := Scalar.addi v2 c7_i32_2245
  let c16_i32_2246 : BitVec 32 := 16#32
  let v2027 : BitVec 32 := Scalar.remsi v2026 c16_i32_2246
  let c1_i32_2251 : BitVec 32 := 1#32
  let v2028 : BitVec 32 := Scalar.muli v2027 c1_i32_2251
  let v2029 : BitVec 32 := Scalar.addi c0_i32_2252 v2028
  v2029.toNat
def k0_dev83 (d0 : Dev nD) : Nat :=
  let c0_i32_2264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2257 : BitVec 32 := 8#32
  let v2038 : BitVec 32 := Scalar.addi v2 c8_i32_2257
  let c16_i32_2258 : BitVec 32 := 16#32
  let v2039 : BitVec 32 := Scalar.remsi v2038 c16_i32_2258
  let c1_i32_2263 : BitVec 32 := 1#32
  let v2040 : BitVec 32 := Scalar.muli v2039 c1_i32_2263
  let v2041 : BitVec 32 := Scalar.addi c0_i32_2264 v2040
  v2041.toNat
def k0_dev84 (d0 : Dev nD) : Nat :=
  let c0_i32_2276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2269 : BitVec 32 := 9#32
  let v2050 : BitVec 32 := Scalar.addi v2 c9_i32_2269
  let c16_i32_2270 : BitVec 32 := 16#32
  let v2051 : BitVec 32 := Scalar.remsi v2050 c16_i32_2270
  let c1_i32_2275 : BitVec 32 := 1#32
  let v2052 : BitVec 32 := Scalar.muli v2051 c1_i32_2275
  let v2053 : BitVec 32 := Scalar.addi c0_i32_2276 v2052
  v2053.toNat
def k0_dev85 (d0 : Dev nD) : Nat :=
  let c0_i32_2288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2281 : BitVec 32 := 10#32
  let v2062 : BitVec 32 := Scalar.addi v2 c10_i32_2281
  let c16_i32_2282 : BitVec 32 := 16#32
  let v2063 : BitVec 32 := Scalar.remsi v2062 c16_i32_2282
  let c1_i32_2287 : BitVec 32 := 1#32
  let v2064 : BitVec 32 := Scalar.muli v2063 c1_i32_2287
  let v2065 : BitVec 32 := Scalar.addi c0_i32_2288 v2064
  v2065.toNat
def k0_dev86 (d0 : Dev nD) : Nat :=
  let c0_i32_2300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2293 : BitVec 32 := 11#32
  let v2074 : BitVec 32 := Scalar.addi v2 c11_i32_2293
  let c16_i32_2294 : BitVec 32 := 16#32
  let v2075 : BitVec 32 := Scalar.remsi v2074 c16_i32_2294
  let c1_i32_2299 : BitVec 32 := 1#32
  let v2076 : BitVec 32 := Scalar.muli v2075 c1_i32_2299
  let v2077 : BitVec 32 := Scalar.addi c0_i32_2300 v2076
  v2077.toNat
def k0_dev87 (d0 : Dev nD) : Nat :=
  let c0_i32_2312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2305 : BitVec 32 := 12#32
  let v2086 : BitVec 32 := Scalar.addi v2 c12_i32_2305
  let c16_i32_2306 : BitVec 32 := 16#32
  let v2087 : BitVec 32 := Scalar.remsi v2086 c16_i32_2306
  let c1_i32_2311 : BitVec 32 := 1#32
  let v2088 : BitVec 32 := Scalar.muli v2087 c1_i32_2311
  let v2089 : BitVec 32 := Scalar.addi c0_i32_2312 v2088
  v2089.toNat
def k0_dev88 (d0 : Dev nD) : Nat :=
  let c0_i32_2324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2317 : BitVec 32 := 13#32
  let v2098 : BitVec 32 := Scalar.addi v2 c13_i32_2317
  let c16_i32_2318 : BitVec 32 := 16#32
  let v2099 : BitVec 32 := Scalar.remsi v2098 c16_i32_2318
  let c1_i32_2323 : BitVec 32 := 1#32
  let v2100 : BitVec 32 := Scalar.muli v2099 c1_i32_2323
  let v2101 : BitVec 32 := Scalar.addi c0_i32_2324 v2100
  v2101.toNat
def k0_dev89 (d0 : Dev nD) : Nat :=
  let c0_i32_2336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2329 : BitVec 32 := 14#32
  let v2110 : BitVec 32 := Scalar.addi v2 c14_i32_2329
  let c16_i32_2330 : BitVec 32 := 16#32
  let v2111 : BitVec 32 := Scalar.remsi v2110 c16_i32_2330
  let c1_i32_2335 : BitVec 32 := 1#32
  let v2112 : BitVec 32 := Scalar.muli v2111 c1_i32_2335
  let v2113 : BitVec 32 := Scalar.addi c0_i32_2336 v2112
  v2113.toNat
def k0_dev90 (d0 : Dev nD) : Nat :=
  let c0_i32_2348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2341 : BitVec 32 := 15#32
  let v2122 : BitVec 32 := Scalar.addi v2 c15_i32_2341
  let c16_i32_2342 : BitVec 32 := 16#32
  let v2123 : BitVec 32 := Scalar.remsi v2122 c16_i32_2342
  let c1_i32_2347 : BitVec 32 := 1#32
  let v2124 : BitVec 32 := Scalar.muli v2123 c1_i32_2347
  let v2125 : BitVec 32 := Scalar.addi c0_i32_2348 v2124
  v2125.toNat
def k0_dev91 (d0 : Dev nD) : Nat :=
  let c0_i32_2662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2654 : BitVec 32 := 1#32
  let v2364 : BitVec 32 := Scalar.subi v2 c1_i32_2654
  let c16_i32_2655 : BitVec 32 := 16#32
  let v2365 : BitVec 32 := Scalar.addi v2364 c16_i32_2655
  let c16_i32_2656 : BitVec 32 := 16#32
  let v2366 : BitVec 32 := Scalar.remsi v2365 c16_i32_2656
  let c1_i32_2661 : BitVec 32 := 1#32
  let v2367 : BitVec 32 := Scalar.muli v2366 c1_i32_2661
  let v2368 : BitVec 32 := Scalar.addi c0_i32_2662 v2367
  v2368.toNat
def k0_dev92 (d0 : Dev nD) : Nat :=
  let c0_i32_2675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2667 : BitVec 32 := 2#32
  let v2377 : BitVec 32 := Scalar.subi v2 c2_i32_2667
  let c16_i32_2668 : BitVec 32 := 16#32
  let v2378 : BitVec 32 := Scalar.addi v2377 c16_i32_2668
  let c16_i32_2669 : BitVec 32 := 16#32
  let v2379 : BitVec 32 := Scalar.remsi v2378 c16_i32_2669
  let c1_i32_2674 : BitVec 32 := 1#32
  let v2380 : BitVec 32 := Scalar.muli v2379 c1_i32_2674
  let v2381 : BitVec 32 := Scalar.addi c0_i32_2675 v2380
  v2381.toNat
def k0_dev93 (d0 : Dev nD) : Nat :=
  let c0_i32_2688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2680 : BitVec 32 := 3#32
  let v2390 : BitVec 32 := Scalar.subi v2 c3_i32_2680
  let c16_i32_2681 : BitVec 32 := 16#32
  let v2391 : BitVec 32 := Scalar.addi v2390 c16_i32_2681
  let c16_i32_2682 : BitVec 32 := 16#32
  let v2392 : BitVec 32 := Scalar.remsi v2391 c16_i32_2682
  let c1_i32_2687 : BitVec 32 := 1#32
  let v2393 : BitVec 32 := Scalar.muli v2392 c1_i32_2687
  let v2394 : BitVec 32 := Scalar.addi c0_i32_2688 v2393
  v2394.toNat
def k0_dev94 (d0 : Dev nD) : Nat :=
  let c0_i32_2717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2709 : BitVec 32 := 4#32
  let v2423 : BitVec 32 := Scalar.subi v2 c4_i32_2709
  let c16_i32_2710 : BitVec 32 := 16#32
  let v2424 : BitVec 32 := Scalar.addi v2423 c16_i32_2710
  let c16_i32_2711 : BitVec 32 := 16#32
  let v2425 : BitVec 32 := Scalar.remsi v2424 c16_i32_2711
  let c1_i32_2716 : BitVec 32 := 1#32
  let v2426 : BitVec 32 := Scalar.muli v2425 c1_i32_2716
  let v2427 : BitVec 32 := Scalar.addi c0_i32_2717 v2426
  v2427.toNat
def k0_dev95 (d0 : Dev nD) : Nat :=
  let c0_i32_2730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2722 : BitVec 32 := 5#32
  let v2436 : BitVec 32 := Scalar.subi v2 c5_i32_2722
  let c16_i32_2723 : BitVec 32 := 16#32
  let v2437 : BitVec 32 := Scalar.addi v2436 c16_i32_2723
  let c16_i32_2724 : BitVec 32 := 16#32
  let v2438 : BitVec 32 := Scalar.remsi v2437 c16_i32_2724
  let c1_i32_2729 : BitVec 32 := 1#32
  let v2439 : BitVec 32 := Scalar.muli v2438 c1_i32_2729
  let v2440 : BitVec 32 := Scalar.addi c0_i32_2730 v2439
  v2440.toNat
def k0_dev96 (d0 : Dev nD) : Nat :=
  let c0_i32_2743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2735 : BitVec 32 := 6#32
  let v2449 : BitVec 32 := Scalar.subi v2 c6_i32_2735
  let c16_i32_2736 : BitVec 32 := 16#32
  let v2450 : BitVec 32 := Scalar.addi v2449 c16_i32_2736
  let c16_i32_2737 : BitVec 32 := 16#32
  let v2451 : BitVec 32 := Scalar.remsi v2450 c16_i32_2737
  let c1_i32_2742 : BitVec 32 := 1#32
  let v2452 : BitVec 32 := Scalar.muli v2451 c1_i32_2742
  let v2453 : BitVec 32 := Scalar.addi c0_i32_2743 v2452
  v2453.toNat
def k0_dev97 (d0 : Dev nD) : Nat :=
  let c0_i32_2756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2748 : BitVec 32 := 7#32
  let v2462 : BitVec 32 := Scalar.subi v2 c7_i32_2748
  let c16_i32_2749 : BitVec 32 := 16#32
  let v2463 : BitVec 32 := Scalar.addi v2462 c16_i32_2749
  let c16_i32_2750 : BitVec 32 := 16#32
  let v2464 : BitVec 32 := Scalar.remsi v2463 c16_i32_2750
  let c1_i32_2755 : BitVec 32 := 1#32
  let v2465 : BitVec 32 := Scalar.muli v2464 c1_i32_2755
  let v2466 : BitVec 32 := Scalar.addi c0_i32_2756 v2465
  v2466.toNat
def k0_dev98 (d0 : Dev nD) : Nat :=
  let c0_i32_2785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2777 : BitVec 32 := 8#32
  let v2495 : BitVec 32 := Scalar.subi v2 c8_i32_2777
  let c16_i32_2778 : BitVec 32 := 16#32
  let v2496 : BitVec 32 := Scalar.addi v2495 c16_i32_2778
  let c16_i32_2779 : BitVec 32 := 16#32
  let v2497 : BitVec 32 := Scalar.remsi v2496 c16_i32_2779
  let c1_i32_2784 : BitVec 32 := 1#32
  let v2498 : BitVec 32 := Scalar.muli v2497 c1_i32_2784
  let v2499 : BitVec 32 := Scalar.addi c0_i32_2785 v2498
  v2499.toNat
def k0_dev99 (d0 : Dev nD) : Nat :=
  let c0_i32_2798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2790 : BitVec 32 := 9#32
  let v2508 : BitVec 32 := Scalar.subi v2 c9_i32_2790
  let c16_i32_2791 : BitVec 32 := 16#32
  let v2509 : BitVec 32 := Scalar.addi v2508 c16_i32_2791
  let c16_i32_2792 : BitVec 32 := 16#32
  let v2510 : BitVec 32 := Scalar.remsi v2509 c16_i32_2792
  let c1_i32_2797 : BitVec 32 := 1#32
  let v2511 : BitVec 32 := Scalar.muli v2510 c1_i32_2797
  let v2512 : BitVec 32 := Scalar.addi c0_i32_2798 v2511
  v2512.toNat
def k0_dev100 (d0 : Dev nD) : Nat :=
  let c0_i32_2811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2803 : BitVec 32 := 10#32
  let v2521 : BitVec 32 := Scalar.subi v2 c10_i32_2803
  let c16_i32_2804 : BitVec 32 := 16#32
  let v2522 : BitVec 32 := Scalar.addi v2521 c16_i32_2804
  let c16_i32_2805 : BitVec 32 := 16#32
  let v2523 : BitVec 32 := Scalar.remsi v2522 c16_i32_2805
  let c1_i32_2810 : BitVec 32 := 1#32
  let v2524 : BitVec 32 := Scalar.muli v2523 c1_i32_2810
  let v2525 : BitVec 32 := Scalar.addi c0_i32_2811 v2524
  v2525.toNat
def k0_dev101 (d0 : Dev nD) : Nat :=
  let c0_i32_2824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2816 : BitVec 32 := 11#32
  let v2534 : BitVec 32 := Scalar.subi v2 c11_i32_2816
  let c16_i32_2817 : BitVec 32 := 16#32
  let v2535 : BitVec 32 := Scalar.addi v2534 c16_i32_2817
  let c16_i32_2818 : BitVec 32 := 16#32
  let v2536 : BitVec 32 := Scalar.remsi v2535 c16_i32_2818
  let c1_i32_2823 : BitVec 32 := 1#32
  let v2537 : BitVec 32 := Scalar.muli v2536 c1_i32_2823
  let v2538 : BitVec 32 := Scalar.addi c0_i32_2824 v2537
  v2538.toNat
def k0_dev102 (d0 : Dev nD) : Nat :=
  let c0_i32_2853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2845 : BitVec 32 := 12#32
  let v2567 : BitVec 32 := Scalar.subi v2 c12_i32_2845
  let c16_i32_2846 : BitVec 32 := 16#32
  let v2568 : BitVec 32 := Scalar.addi v2567 c16_i32_2846
  let c16_i32_2847 : BitVec 32 := 16#32
  let v2569 : BitVec 32 := Scalar.remsi v2568 c16_i32_2847
  let c1_i32_2852 : BitVec 32 := 1#32
  let v2570 : BitVec 32 := Scalar.muli v2569 c1_i32_2852
  let v2571 : BitVec 32 := Scalar.addi c0_i32_2853 v2570
  v2571.toNat
def k0_dev103 (d0 : Dev nD) : Nat :=
  let c0_i32_2866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2858 : BitVec 32 := 13#32
  let v2580 : BitVec 32 := Scalar.subi v2 c13_i32_2858
  let c16_i32_2859 : BitVec 32 := 16#32
  let v2581 : BitVec 32 := Scalar.addi v2580 c16_i32_2859
  let c16_i32_2860 : BitVec 32 := 16#32
  let v2582 : BitVec 32 := Scalar.remsi v2581 c16_i32_2860
  let c1_i32_2865 : BitVec 32 := 1#32
  let v2583 : BitVec 32 := Scalar.muli v2582 c1_i32_2865
  let v2584 : BitVec 32 := Scalar.addi c0_i32_2866 v2583
  v2584.toNat
def k0_dev104 (d0 : Dev nD) : Nat :=
  let c0_i32_2879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2871 : BitVec 32 := 14#32
  let v2593 : BitVec 32 := Scalar.subi v2 c14_i32_2871
  let c16_i32_2872 : BitVec 32 := 16#32
  let v2594 : BitVec 32 := Scalar.addi v2593 c16_i32_2872
  let c16_i32_2873 : BitVec 32 := 16#32
  let v2595 : BitVec 32 := Scalar.remsi v2594 c16_i32_2873
  let c1_i32_2878 : BitVec 32 := 1#32
  let v2596 : BitVec 32 := Scalar.muli v2595 c1_i32_2878
  let v2597 : BitVec 32 := Scalar.addi c0_i32_2879 v2596
  v2597.toNat
def k0_dev105 (d0 : Dev nD) : Nat :=
  let c0_i32_2892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2884 : BitVec 32 := 15#32
  let v2606 : BitVec 32 := Scalar.subi v2 c15_i32_2884
  let c16_i32_2885 : BitVec 32 := 16#32
  let v2607 : BitVec 32 := Scalar.addi v2606 c16_i32_2885
  let c16_i32_2886 : BitVec 32 := 16#32
  let v2608 : BitVec 32 := Scalar.remsi v2607 c16_i32_2886
  let c1_i32_2891 : BitVec 32 := 1#32
  let v2609 : BitVec 32 := Scalar.muli v2608 c1_i32_2891
  let v2610 : BitVec 32 := Scalar.addi c0_i32_2892 v2609
  v2610.toNat
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x32768, .bf16⟩
  | .hbm, ⟨2, _⟩ => ⟨S1024x32768, .bf16⟩
  | .hbm, ⟨3, _⟩ => ⟨S1024x32768, .bf16⟩
  | .hbm, ⟨4, _⟩ => ⟨S32768x1024, .bf16⟩
  | .hbm, ⟨5, _⟩ => ⟨S32768x1024, .bf16⟩
  | .hbm, ⟨6, _⟩ => ⟨S32768x1024, .bf16⟩
  | .hbm, ⟨7, _⟩ => ⟨S1024x1024, .f32⟩
  | .hbm, ⟨8, _⟩ => ⟨S1024x32768, .f32⟩
  | .hbm, ⟨9, _⟩ => ⟨S1024x32768, .f32⟩
  | .hbm, ⟨10, _⟩ => ⟨S1024x32768, .bf16⟩
  | .hbm, ⟨11, _⟩ => ⟨S_, .bf16⟩
  | .hbm, ⟨12, _⟩ => ⟨S1024x32768, .bf16⟩
  | .hbm, ⟨13, _⟩ => ⟨S1024x32768, .bf16⟩
  | .hbm, ⟨14, _⟩ => ⟨S1024x32768, .f32⟩
  | .hbm, ⟨15, _⟩ => ⟨S32768x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x32768, .f32⟩
  | .hbm, ⟨20, _⟩ => ⟨S1024x32768, .f32⟩
  | .hbm, ⟨21, _⟩ => ⟨S1024x32768, .bf16⟩
  | .hbm, ⟨22, _⟩ => ⟨S_, .bf16⟩
  | .hbm, ⟨23, _⟩ => ⟨S1024x32768, .bf16⟩
  | .hbm, ⟨24, _⟩ => ⟨S1024x32768, .bf16⟩
  | .hbm, ⟨25, _⟩ => ⟨S1024x32768, .f32⟩
  | .hbm, ⟨26, _⟩ => ⟨S32768x1024, .f32⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x32768, .f32⟩
  | .hbm, ⟨31, _⟩ => ⟨S1024x32768, .f32⟩
  | .hbm, ⟨32, _⟩ => ⟨S1024x32768, .bf16⟩
  | .hbm, ⟨33, _⟩ => ⟨S_, .bf16⟩
  | .hbm, ⟨34, _⟩ => ⟨S1024x32768, .bf16⟩
  | .hbm, ⟨35, _⟩ => ⟨S1024x32768, .bf16⟩
  | .hbm, ⟨36, _⟩ => ⟨S1024x32768, .f32⟩
  | .hbm, ⟨37, _⟩ => ⟨S32768x1024, .f32⟩
  | .hbm, ⟨38, _⟩ => ⟨S1024x1024, .f32⟩
  | .hbm, ⟨39, _⟩ => ⟨S1024x1024, .bf16⟩
  | .hbm, ⟨40, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Program.lean ====
/-
# The kernel's body as loops

The printed body is one straight line of about five hundred operations. Here the same line is written with the loops
it was traced from — the signals, the copies, the waits, the four groups of products, the three layers — and
`body_eq` states that the printed body is this program.
-/
module

public import proofs.«01_k».proof.Proof.Gen.KernelIdeal.Skeleton
public import Idealize.ShloMosaic.Lib.Pipeline.Regions

@[expose] public section

set_option maxRecDepth 16384

noncomputable section

namespace Cert.MLP

open Cert.KernelIdeal Cert.KernelIdeal.Gen
open Idealize.ShloMosaic Idealize.ShloMosaic.TcCoe Idealize.SL.Sem

variable {F : FTy → Type} [FloatOps F]

/-- The programs of this kernel. -/
abbrev Pg (F : FTy → Type) [FloatOps F] (α : Type) : Type _ := Prog (TpuEff nD τ sig (Elt F) Λ₀ .tc) α

/-! ## The buffers and semaphores -/

/-- The device's block of `x`. -/
abbrev xM : Memref sig .tc .vmem S64x1024 .bf16 := Memref.whole cc0_stg0_0
/-- The result's block. -/
abbrev oM : Memref sig .tc .vmem S64x1024 .f32 := Memref.whole cc0_stg7_0
/-- The first weight of layer `l`. -/
abbrev wiM : Fin 3 → Memref sig .tc .vmem S1024x2048 .bf16
  | 0 => Memref.whole cc0_stg1_0 | 1 => Memref.whole cc0_stg3_0 | 2 => Memref.whole cc0_stg5_0
/-- The second weight of layer `l`. -/
abbrev woM : Fin 3 → Memref sig .tc .vmem S2048x1024 .bf16
  | 0 => Memref.whole cc0_stg2_0 | 1 => Memref.whole cc0_stg4_0 | 2 => Memref.whole cc0_stg6_0
/-- The gathered blocks of `x`: slot `k` is the block of the device `k` before. -/
abbrev gM : Memref sig .tc .vmem S16x64x1024 .bf16 := Memref.whole cc0_scratch0
/-- The partial products at f32. -/
abbrev aM : Memref sig .tc .vmem S16x64x1024 .f32 := Memref.whole cc0_scratch1
/-- The partial products at bf16, as sent. -/
abbrev pM : Memref sig .tc .vmem S16x64x1024 .bf16 := Memref.whole cc0_scratch2
/-- The partial products received. -/
abbrev rM : Memref sig .tc .vmem S15x64x1024 .bf16 := Memref.whole cc0_scratch3

theorem inb16 (k : Fin 16) : ∀ a, (![k.val, 0, 0] : Fin 3 → Nat) a + S1x64x1024.size a ≤ S16x64x1024.size a := by revert k; decide
theorem inb15 (k : Fin 15) : ∀ a, (![k.val, 0, 0] : Fin 3 → Nat) a + S1x64x1024.size a ≤ S15x64x1024.size a := by revert k; decide
theorem inb4 (g : Fin 4) : ∀ a, (![4 * g.val, 0, 0] : Fin 3 → Nat) a + S4x64x1024.size a ≤ S16x64x1024.size a := by revert g; decide
theorem inbS (k : Fin 15) : ∀ a, (![k.val] : Fin 1 → Nat) a + S1.size a ≤ S15.size a := by revert k; decide

/-- Slot `k` of a buffer of sixteen, as a rectangle; -/
abbrev r16 (k : Fin 16) : Rect S16x64x1024 := Rect.unit (s := S16x64x1024) ![k.val, 0, 0] S1x64x1024.size (inb16 k)
/-- of the buffer of fifteen; -/
abbrev r15 (k : Fin 15) : Rect S15x64x1024 := Rect.unit (s := S15x64x1024) ![k.val, 0, 0] S1x64x1024.size (inb15 k)
/-- the four slots of group `g`. -/
abbrev r4 (g : Fin 4) : Rect S16x64x1024 := Rect.unit (s := S16x64x1024) ![4 * g.val, 0, 0] S4x64x1024.size (inb4 g)

theorem words16 (k : Fin 16) : (r16 k).WholeWords (EltTy.packing .bf16) := by revert k; decide
theorem words15 (k : Fin 15) : (r15 k).WholeWords (EltTy.packing .bf16) := by revert k; decide
theorem packed4 (g : Fin 4) : (r4 g).PackedRows (EltTy.packing .bf16) := by revert g; decide

/-- Slot `k` of `gM`, `pM` and `rM`, as the copies name it. -/
abbrev gS (k : Fin 16) : Memref sig .tc .vmem S64x1024 .bf16 :=
  (gM.slice (r16 k) (fun _ => rfl)).squeeze S64x1024 squeezes_S1x64x1024_S64x1024
@[inherit_doc gS] abbrev pS (k : Fin 16) : Memref sig .tc .vmem S64x1024 .bf16 :=
  (pM.slice (r16 k) (fun _ => rfl)).squeeze S64x1024 squeezes_S1x64x1024_S64x1024
@[inherit_doc gS] abbrev rS (k : Fin 15) : Memref sig .tc .vmem S64x1024 .bf16 :=
  (rM.slice (r15 k) (fun _ => rfl)).squeeze S64x1024 squeezes_S1x64x1024_S64x1024

theorem gS_exact (k : Fin 16) : (gS k).view.WordExact := ((Memref.isWhole_whole cc0_scratch0).wordExact_slice rfl _ (words16 k)).reshape _ _
theorem pS_exact (k : Fin 16) : (pS k).view.WordExact := ((Memref.isWhole_whole cc0_scratch2).wordExact_slice rfl _ (words16 k)).reshape _ _
theorem rS_exact (k : Fin 15) : (rS k).view.WordExact := ((Memref.isWhole_whole cc0_scratch3).wordExact_slice rfl _ (words15 k)).reshape _ _

/-- The barrier semaphore. -/
abbrev barS : Sem sig := (SemArray.scalar (sig.barrier 0 rfl) : Sems sig S_).sem
/-- The `k`-th semaphore of an array of fifteen. -/
abbrev semOf (a : DmaSems sig S15) (k : Fin 15) : DmaSem sig :=
  ((a.slice (Rect.unit (s := S15) ![k.val] S1.size (inbS k))).squeeze S_ squeezes_S1_S_).sem
/-- The send and receive semaphores of the all-gather and of the reduce-scatter. -/
abbrev agS (k : Fin 15) : DmaSem sig := semOf cc0_scratch4 k
@[inherit_doc agS] abbrev agR (k : Fin 15) : DmaSem sig := semOf cc0_scratch5 k
@[inherit_doc agS] abbrev rsS (k : Fin 15) : DmaSem sig := semOf cc0_scratch6 k
@[inherit_doc agS] abbrev rsR (k : Fin 15) : DmaSem sig := semOf cc0_scratch7 k

/-! ## The devices named -/

/-- The device that signal `k` of the entry handshake names, as the program computes it. -/
def barDev : Fin 15 → Dev nD → Dev nD
  | 0, d => ⟨k0_dev1 d, k0_dev1_lt d⟩
  | 1, d => ⟨k0_dev2 d, k0_dev2_lt d⟩
  | 2, d => ⟨k0_dev3 d, k0_dev3_lt d⟩
  | 3, d => ⟨k0_dev4 d, k0_dev4_lt d⟩
  | 4, d => ⟨k0_dev5 d, k0_dev5_lt d⟩
  | 5, d => ⟨k0_dev6 d, k0_dev6_lt d⟩
  | 6, d => ⟨k0_dev7 d, k0_dev7_lt d⟩
  | 7, d => ⟨k0_dev8 d, k0_dev8_lt d⟩
  | 8, d => ⟨k0_dev9 d, k0_dev9_lt d⟩
  | 9, d => ⟨k0_dev10 d, k0_dev10_lt d⟩
  | 10, d => ⟨k0_dev11 d, k0_dev11_lt d⟩
  | 11, d => ⟨k0_dev12 d, k0_dev12_lt d⟩
  | 12, d => ⟨k0_dev13 d, k0_dev13_lt d⟩
  | 13, d => ⟨k0_dev14 d, k0_dev14_lt d⟩
  | 14, d => ⟨k0_dev15 d, k0_dev15_lt d⟩

/-- The device that copy `k` of layer `l`'s all-gather names, as the program computes it. -/
def agDev : Fin 3 → Fin 15 → Dev nD → Dev nD
  | 0, 0, d => ⟨k0_dev16 d, k0_dev16_lt d⟩
  | 0, 1, d => ⟨k0_dev17 d, k0_dev17_lt d⟩
  | 0, 2, d => ⟨k0_dev18 d, k0_dev18_lt d⟩
  | 0, 3, d => ⟨k0_dev19 d, k0_dev19_lt d⟩
  | 0, 4, d => ⟨k0_dev20 d, k0_dev20_lt d⟩
  | 0, 5, d => ⟨k0_dev21 d, k0_dev21_lt d⟩
  | 0, 6, d => ⟨k0_dev22 d, k0_dev22_lt d⟩
  | 0, 7, d => ⟨k0_dev23 d, k0_dev23_lt d⟩
  | 0, 8, d => ⟨k0_dev24 d, k0_dev24_lt d⟩
  | 0, 9, d => ⟨k0_dev25 d, k0_dev25_lt d⟩
  | 0, 10, d => ⟨k0_dev26 d, k0_dev26_lt d⟩
  | 0, 11, d => ⟨k0_dev27 d, k0_dev27_lt d⟩
  | 0, 12, d => ⟨k0_dev28 d, k0_dev28_lt d⟩
  | 0, 13, d => ⟨k0_dev29 d, k0_dev29_lt d⟩
  | 0, 14, d => ⟨k0_dev30 d, k0_dev30_lt d⟩
  | 1, 0, d => ⟨k0_dev46 d, k0_dev46_lt d⟩
  | 1, 1, d => ⟨k0_dev47 d, k0_dev47_lt d⟩
  | 1, 2, d => ⟨k0_dev48 d, k0_dev48_lt d⟩
  | 1, 3, d => ⟨k0_dev49 d, k0_dev49_lt d⟩
  | 1, 4, d => ⟨k0_dev50 d, k0_dev50_lt d⟩
  | 1, 5, d => ⟨k0_dev51 d, k0_dev51_lt d⟩
  | 1, 6, d => ⟨k0_dev52 d, k0_dev52_lt d⟩
  | 1, 7, d => ⟨k0_dev53 d, k0_dev53_lt d⟩
  | 1, 8, d => ⟨k0_dev54 d, k0_dev54_lt d⟩
  | 1, 9, d => ⟨k0_dev55 d, k0_dev55_lt d⟩
  | 1, 10, d => ⟨k0_dev56 d, k0_dev56_lt d⟩
  | 1, 11, d => ⟨k0_dev57 d, k0_dev57_lt d⟩
  | 1, 12, d => ⟨k0_dev58 d, k0_dev58_lt d⟩
  | 1, 13, d => ⟨k0_dev59 d, k0_dev59_lt d⟩
  | 1, 14, d => ⟨k0_dev60 d, k0_dev60_lt d⟩
  | 2, 0, d => ⟨k0_dev76 d, k0_dev76_lt d⟩
  | 2, 1, d => ⟨k0_dev77 d, k0_dev77_lt d⟩
  | 2, 2, d => ⟨k0_dev78 d, k0_dev78_lt d⟩
  | 2, 3, d => ⟨k0_dev79 d, k0_dev79_lt d⟩
  | 2, 4, d => ⟨k0_dev80 d, k0_dev80_lt d⟩
  | 2, 5, d => ⟨k0_dev81 d, k0_dev81_lt d⟩
  | 2, 6, d => ⟨k0_dev82 d, k0_dev82_lt d⟩
  | 2, 7, d => ⟨k0_dev83 d, k0_dev83_lt d⟩
  | 2, 8, d => ⟨k0_dev84 d, k0_dev84_lt d⟩
  | 2, 9, d => ⟨k0_dev85 d, k0_dev85_lt d⟩
  | 2, 10, d => ⟨k0_dev86 d, k0_dev86_lt d⟩
  | 2, 11, d => ⟨k0_dev87 d, k0_dev87_lt d⟩
  | 2, 12, d => ⟨k0_dev88 d, k0_dev88_lt d⟩
  | 2, 13, d => ⟨k0_dev89 d, k0_dev89_lt d⟩
  | 2, 14, d => ⟨k0_dev90 d, k0_dev90_lt d⟩

/-- The device that copy `k` of layer `l`'s reduce-scatter names, as the program computes it. -/
def rsDev : Fin 3 → Fin 15 → Dev nD → Dev nD
  | 0, 0, d => ⟨k0_dev31 d, k0_dev31_lt d⟩
  | 0, 1, d => ⟨k0_dev32 d, k0_dev32_lt d⟩
  | 0, 2, d => ⟨k0_dev33 d, k0_dev33_lt d⟩
  | 0, 3, d => ⟨k0_dev34 d, k0_dev34_lt d⟩
  | 0, 4, d => ⟨k0_dev35 d, k0_dev35_lt d⟩
  | 0, 5, d => ⟨k0_dev36 d, k0_dev36_lt d⟩
  | 0, 6, d => ⟨k0_dev37 d, k0_dev37_lt d⟩
  | 0, 7, d => ⟨k0_dev38 d, k0_dev38_lt d⟩
  | 0, 8, d => ⟨k0_dev39 d, k0_dev39_lt d⟩
  | 0, 9, d => ⟨k0_dev40 d, k0_dev40_lt d⟩
  | 0, 10, d => ⟨k0_dev41 d, k0_dev41_lt d⟩
  | 0, 11, d => ⟨k0_dev42 d, k0_dev42_lt d⟩
  | 0, 12, d => ⟨k0_dev43 d, k0_dev43_lt d⟩
  | 0, 13, d => ⟨k0_dev44 d, k0_dev44_lt d⟩
  | 0, 14, d => ⟨k0_dev45 d, k0_dev45_lt d⟩
  | 1, 0, d => ⟨k0_dev61 d, k0_dev61_lt d⟩
  | 1, 1, d => ⟨k0_dev62 d, k0_dev62_lt d⟩
  | 1, 2, d => ⟨k0_dev63 d, k0_dev63_lt d⟩
  | 1, 3, d => ⟨k0_dev64 d, k0_dev64_lt d⟩
  | 1, 4, d => ⟨k0_dev65 d, k0_dev65_lt d⟩
  | 1, 5, d => ⟨k0_dev66 d, k0_dev66_lt d⟩
  | 1, 6, d => ⟨k0_dev67 d, k0_dev67_lt d⟩
  | 1, 7, d => ⟨k0_dev68 d, k0_dev68_lt d⟩
  | 1, 8, d => ⟨k0_dev69 d, k0_dev69_lt d⟩
  | 1, 9, d => ⟨k0_dev70 d, k0_dev70_lt d⟩
  | 1, 10, d => ⟨k0_dev71 d, k0_dev71_lt d⟩
  | 1, 11, d => ⟨k0_dev72 d, k0_dev72_lt d⟩
  | 1, 12, d => ⟨k0_dev73 d, k0_dev73_lt d⟩
  | 1, 13, d => ⟨k0_dev74 d, k0_dev74_lt d⟩
  | 1, 14, d => ⟨k0_dev75 d, k0_dev75_lt d⟩
  | 2, 0, d => ⟨k0_dev91 d, k0_dev91_lt d⟩
  | 2, 1, d => ⟨k0_dev92 d, k0_dev92_lt d⟩
  | 2, 2, d => ⟨k0_dev93 d, k0_dev93_lt d⟩
  | 2, 3, d => ⟨k0_dev94 d, k0_dev94_lt d⟩
  | 2, 4, d => ⟨k0_dev95 d, k0_dev95_lt d⟩
  | 2, 5, d => ⟨k0_dev96 d, k0_dev96_lt d⟩
  | 2, 6, d => ⟨k0_dev97 d, k0_dev97_lt d⟩
  | 2, 7, d => ⟨k0_dev98 d, k0_dev98_lt d⟩
  | 2, 8, d => ⟨k0_dev99 d, k0_dev99_lt d⟩
  | 2, 9, d => ⟨k0_dev100 d, k0_dev100_lt d⟩
  | 2, 10, d => ⟨k0_dev101 d, k0_dev101_lt d⟩
  | 2, 11, d => ⟨k0_dev102 d, k0_dev102_lt d⟩
  | 2, 12, d => ⟨k0_dev103 d, k0_dev103_lt d⟩
  | 2, 13, d => ⟨k0_dev104 d, k0_dev104_lt d⟩
  | 2, 14, d => ⟨k0_dev105 d, k0_dev105_lt d⟩

/-- The device `k + 1` after `d` around the sixteen, -/
def up (d : Dev nD) (k : Fin 15) : Dev nD := ⟨(d.val + (k.val + 1)) % 16, Nat.mod_lt _ (by decide)⟩
/-- and the device `k + 1` before. -/
def dn (d : Dev nD) (k : Fin 15) : Dev nD := ⟨(d.val + 16 - (k.val + 1)) % 16, Nat.mod_lt _ (by decide)⟩

theorem dn_up (d : Dev nD) (k : Fin 15) : dn (up d k) k = d := by revert d k; decide
theorem up_dn (d : Dev nD) (k : Fin 15) : up (dn d k) k = d := by revert d k; decide

theorem barDev_eq (k : Fin 15) (d : Dev nD) : barDev k d = up d k := by revert k d; decide +kernel
theorem agDev_eq (l : Fin 3) (k : Fin 15) (d : Dev nD) : agDev l k d = up d k := by revert l k d; decide +kernel
theorem rsDev_eq (l : Fin 3) (k : Fin 15) (d : Dev nD) : rsDev l k d = dn d k := by revert l k d; decide +kernel

/-! ## The loops -/

/-- `f` over a list, in order. -/
def loop {β : Type} : List β → (β → Pg F PUnit) → Pg F PUnit
  | [], _ => pure ⟨⟩
  | x :: xs, f => f x >>= fun _ => loop xs f

/-- `f` over a list, in order, a value threaded through. -/
def fold {β γ : Type} : List β → (β → γ → Pg F γ) → γ → Pg F γ
  | [], _, y => pure y
  | x :: xs, f, y => f x y >>= fun z => fold xs f z

/-- The fifteen other slots. -/
def ks : List (Fin 15) := [0, 1, 2, 3, 4, 5, 6, 7, 8, 9, 10, 11, 12, 13, 14]
/-- The copies issued after group `g`'s products. -/
def gks : Fin 4 → List (Fin 15)
  | 0 => [0, 1, 2] | 1 => [3, 4, 5, 6] | 2 => [7, 8, 9, 10] | 3 => [11, 12, 13, 14]

/-! ## The steps -/

/-- Copy `k` of the all-gather: slot 0 to slot `k + 1` of the device `k + 1` after. -/
def agSend (d : Dev nD) (l : Fin 3) (k : Fin 15) : Pg F PUnit :=
  Prog.lift (.enqueueDma (gS 0) (.remote (Dev.tc (agDev l k d)) (gS k.succ) (.dma (agS k))) (.dma (agR k)) (gS_exact 0) (gS_exact k.succ) ⟨⟨rfl, Or.inl rfl⟩, trivial⟩)
/-- The wait for its source to be read; -/
def agSent (k : Fin 15) : Pg F PUnit := Prog.lift (.waitDma2 (agS k) (gS k.succ) (gS 0) (gS_exact k.succ) (gS_exact 0))
/-- the wait for the block arriving in slot `k + 1`. -/
def agGot (k : Fin 15) : Pg F PUnit := Prog.lift (.waitDma2 (agR k) (gS k.succ) (gS k.succ) (gS_exact k.succ) (gS_exact k.succ))
/-- Copy `k` of the reduce-scatter: the partial product in slot `k + 1` to slot `k` of the device `k + 1` before. -/
def rsSend (d : Dev nD) (l : Fin 3) (k : Fin 15) : Pg F PUnit :=
  Prog.lift (.enqueueDma (pS k.succ) (.remote (Dev.tc (rsDev l k d)) (rS k) (.dma (rsS k))) (.dma (rsR k)) (pS_exact k.succ) (rS_exact k) ⟨⟨rfl, Or.inl rfl⟩, trivial⟩)
/-- The wait for its source to be read. -/
def rsSent (k : Fin 15) : Pg F PUnit := Prog.lift (.waitDma2 (rsS k) (rS k) (pS k.succ) (rS_exact k) (pS_exact k.succ))

/-- The running sum with one received block added. -/
def addIn (y : FVec F S64x1024 .f32) (v : Vec F S1x64x1024 .bf16) : FVec F S64x1024 .f32 :=
  addf y (extf .f32 (shapeCast S64x1024 v shapeCasts_S1x64x1024_S64x1024) bitsLt_bf16_f32)
/-- The running sum's start: the device's own partial product. -/
def addOwn (v : Vec F S1x64x1024 .f32) : FVec F S64x1024 .f32 := shapeCast S64x1024 v shapeCasts_S1x64x1024_S64x1024

/-- The wait for partial product `k` to arrive, and its addition to the running sum. -/
def rsAdd (k : Fin 15) (y : FVec F S64x1024 .f32) : Pg F (FVec F S64x1024 .f32) := do
  Prog.lift (.waitDma2 (rsR k) (rS k) (rS k) (rS_exact k) (rS_exact k))
  let v : Vec F S1x64x1024 .bf16 ← Prog.lift (.load rM (r15 k).toLoadRect (View.loadsAt_vmem h_S1x64x1024))
  pure (addIn y v)

/-- The products of group `g`, and the copies of them. -/
def group (d : Dev nD) (l : Fin 3) (g : Fin 4) : Pg F PUnit := do
  let x : Vec F S4x64x1024 .bf16 ← Prog.lift (.load gM (r4 g).toLoadRect (View.loadsAt_vmem h_S4x64x1024))
  let wi : Vec F S1024x2048 .bf16 ← Prog.lift (.load (wiM l) (Rect.unit (s := S1024x2048) ![0, 0] S1024x2048.size inb_S1024x2048_S1024x2048_0_0).toLoadRect (View.loadsAt_vmem h_S1024x2048))
  let wo : Vec F S2048x1024 .bf16 ← Prog.lift (.load (woM l) (Rect.unit (s := S2048x1024) ![0, 0] S2048x1024.size inb_S2048x1024_S2048x1024_0_0).toLoadRect (View.loadsAt_vmem h_S2048x1024))
  let _ : Vec F S4x64x1024 .f32 ← Prog.lift (.load aM (r4 g).toLoadRect (View.loadsAt_vmem h_S4x64x1024))
  Prog.lift (.store aM (r4 g) (k0_pay3 x wi wo) Finset.univ (View.stores_vmem_bits_univ h_S4x64x1024 rfl) (.inl rfl))
  let _ : Vec F S4x64x1024 .bf16 ← Prog.lift (.load pM (r4 g).toLoadRect (View.loadsAt_vmem h_S4x64x1024))
  Prog.lift (.store pM (r4 g) (k0_pay4 x wi wo) Finset.univ (View.stores_vmem h_S4x64x1024 ((Memref.isWhole_whole cc0_scratch2).storeExact_slice rfl _ (packed4 g)) (fun _ => rfl)) (.inl rfl))
  loop (gks g) (rsSend d l)

/-- Slot 0 of the gathered blocks set. -/
def put (v : Vec F S1x64x1024 .bf16) : Pg F PUnit := do
  let _ : Vec F S1x64x1024 .bf16 ← Prog.lift (.load gM (r16 0).toLoadRect (View.loadsAt_vmem h_S1x64x1024))
  Prog.lift (.store gM (r16 0) v Finset.univ (View.stores_vmem h_S1x64x1024 ((Memref.isWhole_whole cc0_scratch0).storeExact_slice rfl _ packedbf16_S16x64x1024_S1x64x1024_0_0_0) (fun _ => rfl)) (.inl rfl))

/-- Layer `l`, from the device's block in slot 0 to the sum of the partial products of it. -/
def layer (d : Dev nD) (l : Fin 3) : Pg F (FVec F S64x1024 .f32) := do
  loop ks (agSend d l)
  loop ks agSent
  loop ks agGot
  loop [0, 1, 2, 3] (group d l)
  let v : Vec F S1x64x1024 .f32 ← Prog.lift (.load aM (r16 0).toLoadRect (View.loadsAt_vmem h_S1x64x1024))
  let y ← fold ks rsAdd (addOwn v)
  loop ks rsSent
  pure y

/-- The entry handshake. -/
def handshake (d : Dev nD) : Pg F PUnit := do
  loop ks (fun k => semSignalWord (barDev k d) barS 1#32)
  semWaitWord barS 15#32

/-- The whole body. -/
def body : Pg F PUnit := do
  let d ← Prog.lift .deviceId
  handshake d
  let x : Vec F S64x1024 .bf16 ← Prog.lift (.load xM (Rect.unit (s := S64x1024) ![0, 0] S64x1024.size inb_S64x1024_S64x1024_0_0).toLoadRect (View.loadsAt_vmem h_S64x1024))
  put (k0_pay1 x)
  let y ← layer d 0
  put (k0_pay22 y)
  let y ← layer d 1
  put (k0_pay22 y)
  let y ← layer d 2
  let _ : Vec F S64x1024 .f32 ← Prog.lift (.load oM (Rect.unit (s := S64x1024) ![0, 0] S64x1024.size inb_S64x1024_S64x1024_0_0).toLoadRect (View.loadsAt_vmem h_S64x1024))
  Prog.lift (.store oM (Rect.unit (s := S64x1024) ![0, 0] S64x1024.size inb_S64x1024_S64x1024_0_0) y Finset.univ (View.stores_vmem_bits_univ h_S64x1024 rfl) (.inl rfl))

/-- The printed body, at the launch's buffers and semaphores. -/
abbrev printed : Pg F PUnit :=
  cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

/-- The printed body is the body written as loops. -/
theorem body_eq : printed (F := F) = body (F := F) := by chain_rfl

end Cert.MLP

end
-- ==== Proof.Values.lean ====
/-
# What the kernel computes, layer by layer

A layer's values from the blocks every device starts it with. Each is a function over a whole buffer, so that any part
of the buffer is held at the same function.
-/
module

public import proofs.«01_k».proof.Proof.Program
public import Idealize.ShloMosaic.Lib.ValueIdxCore

@[expose] public section

set_option maxRecDepth 16384

noncomputable section

namespace Cert.MLP

open Cert.KernelIdeal Cert.KernelIdeal.Gen
open Idealize.ShloMosaic Idealize.ShloMosaic.TcCoe Idealize.SL.Sem

variable {F : FTy → Type} [FloatOps F]

/-- The device `k` before `c`, `k` up to fifteen. -/
def back (c : Dev nD) (k : Fin 16) : Dev nD := ⟨(c.val + 16 - k.val) % 16, Nat.mod_lt _ (by decide)⟩

theorem back_zero (c : Dev nD) : back c 0 = c := by revert c; decide
theorem back_succ (c : Dev nD) (k : Fin 15) : back c k.succ = dn c k := by revert c k; decide

/-- The gathered blocks on device `c` once every copy is in: slot `k` is the block of the device `k` before. -/
def gathered (x : Dev nD → Vec F S64x1024 .bf16) (c : Dev nD) : Vec F S16x64x1024 .bf16 :=
  fun i => x (back c (i 0)) (ValueIdx.ix2 (i 1) (i 2))

/-- Group `g` of the gathered blocks, as loaded. -/
def gathered4 (x : Dev nD → Vec F S64x1024 .bf16) (c : Dev nD) (g : Fin 4) : Vec F S4x64x1024 .bf16 :=
  gM.view.readAt (Elt F) (r4 g).toLoadRect (gathered x c)

/-- The group slot `k` is in, and its place there. -/
def grp (k : Fin 16) : Fin 4 := ⟨k.val / 4, by omega⟩
@[inherit_doc grp] def plc (k : Fin 16) : Fin 4 := ⟨k.val % 4, by omega⟩

/-- The partial products of device `c` at f32: slot `k` is for the device `k` before; -/
def part (x : Dev nD → Vec F S64x1024 .bf16) (wi : Dev nD → Vec F S1024x2048 .bf16) (wo : Dev nD → Vec F S2048x1024 .bf16) (c : Dev nD) :
    Vec F S16x64x1024 .f32 :=
  fun i => k0_pay3 (gathered4 x c (grp (i 0))) (wi c) (wo c) (ValueIdx.ix3 (plc (i 0)) (i 1) (i 2))
/-- the same at bf16, as sent. -/
def partB (x : Dev nD → Vec F S64x1024 .bf16) (wi : Dev nD → Vec F S1024x2048 .bf16) (wo : Dev nD → Vec F S2048x1024 .bf16) (c : Dev nD) :
    Vec F S16x64x1024 .bf16 :=
  fun i => k0_pay4 (gathered4 x c (grp (i 0))) (wi c) (wo c) (ValueIdx.ix3 (plc (i 0)) (i 1) (i 2))

/-- The partial products device `c` receives: in slot `k` that of the device `k + 1` after. -/
def recvd (x : Dev nD → Vec F S64x1024 .bf16) (wi : Dev nD → Vec F S1024x2048 .bf16) (wo : Dev nD → Vec F S2048x1024 .bf16) (c : Dev nD) :
    Vec F S15x64x1024 .bf16 :=
  fun i => partB x wi wo (up c (i 0)) (ValueIdx.ix3 (i 0 : Fin 15).succ (i 1) (i 2))

/-- What the load of one received slot reads. -/
def recvdAt (x : Dev nD → Vec F S64x1024 .bf16) (wi : Dev nD → Vec F S1024x2048 .bf16) (wo : Dev nD → Vec F S2048x1024 .bf16) (c : Dev nD) (k : Fin 15) :
    Vec F S1x64x1024 .bf16 := rM.view.readAt (Elt F) (r15 k).toLoadRect (recvd x wi wo c)

/-- The layer's sum on device `c`: its own partial product, the received ones added in order. -/
def total (x : Dev nD → Vec F S64x1024 .bf16) (wi : Dev nD → Vec F S1024x2048 .bf16) (wo : Dev nD → Vec F S2048x1024 .bf16) (c : Dev nD) : FVec F S64x1024 .f32 :=
  ks.foldl (fun y k => addIn y (recvdAt x wi wo c k)) (addOwn (aM.view.readAt (Elt F) (r16 0).toLoadRect (part x wi wo c)))

/-- The blocks the next layer starts from. -/
def rounded (y : FVec F S64x1024 .f32) : Vec F S64x1024 .bf16 := truncf .bf16 y bitsLt_bf16_f32

/-- The launch's inputs: the blocks of `x`, and the weights by layer. -/
structure Inputs (F : FTy → Type) where
  x : Dev nD → Vec F S64x1024 .bf16
  wi : ℕ → Dev nD → Vec F S1024x2048 .bf16
  wo : ℕ → Dev nD → Vec F S2048x1024 .bf16

/-- The blocks layer `l` starts from. -/
def Inputs.X (I : Inputs F) : ℕ → Dev nD → Vec F S64x1024 .bf16
  | 0 => I.x
  | l + 1 => fun d => rounded (total (I.X l) (I.wi l) (I.wo l) d)

/-- Layer `l`'s gathered blocks, partial products at f32 and at bf16, received partial products, and sum on device `c`. -/
abbrev Inputs.G (I : Inputs F) (l : ℕ) (c : Dev nD) : Vec F S16x64x1024 .bf16 := gathered (I.X l) c
@[inherit_doc Inputs.G] abbrev Inputs.A (I : Inputs F) (l : ℕ) (c : Dev nD) : Vec F S16x64x1024 .f32 := part (I.X l) (I.wi l) (I.wo l) c
@[inherit_doc Inputs.G] abbrev Inputs.P (I : Inputs F) (l : ℕ) (c : Dev nD) : Vec F S16x64x1024 .bf16 := partB (I.X l) (I.wi l) (I.wo l) c
@[inherit_doc Inputs.G] abbrev Inputs.R (I : Inputs F) (l : ℕ) (c : Dev nD) : Vec F S15x64x1024 .bf16 := recvd (I.X l) (I.wi l) (I.wo l) c
@[inherit_doc Inputs.G] abbrev Inputs.Y (I : Inputs F) (l : ℕ) (c : Dev nD) : FVec F S64x1024 .f32 := total (I.X l) (I.wi l) (I.wo l) c

end Cert.MLP

end
-- ==== Proof.Regions.lean ====
/-
# Where the slots lie

The elements of each slot and group of the scratch buffers, and what a copy or a store leaves there.
-/
module

public import proofs.«01_k».proof.Proof.Values
public import Idealize.ShloMosaic.Lib.Pipeline.Value

@[expose] public section

set_option maxRecDepth 16384

noncomputable section

namespace Cert.MLP

open Cert.KernelIdeal Cert.KernelIdeal.Gen
open Idealize.ShloMosaic Idealize.ShloMosaic.TcCoe Idealize.SL.Sem Idealize.ShloMosaic.ValueIdx

variable {F : FTy → Type} [FloatOps F]

/-- Dropping the leading unit axis: entry `j` of the plane is entry `(0, j)` of the slot. -/
theorem plane_idx (h : S64x1024.numel = S1x64x1024.numel) (j : S64x1024.Idx) :
    Shape.reshapeEquiv h j = (ix3 0 (j 0) (j 1) : S1x64x1024.Idx) := by
  apply Shape.reshapeEquiv_eq_of_rowMajor
  show (Shape.rowMajorPi (![1, 64, 1024]) (ix3 0 (j 0) (j 1))).val = (Shape.rowMajorPi ![64, 1024] j).val
  rw [Shape.rowMajorPi_succ_val]
  show 0 * _ + (Shape.rowMajorPi ![64, 1024] _).val = _
  rw [Nat.zero_mul, Nat.zero_add]
  congr 2
  funext a; match a with | ⟨0, _⟩ => rfl | ⟨1, _⟩ => rfl

/-- Where slot `k`'s entry `j` lies in the buffer. -/
theorem gS_emb (k : Fin 16) (j : S64x1024.Idx) : (gS k).view.emb j = (ix3 k (j 0) (j 1) : S16x64x1024.Idx) := by
  show (r16 k).emb (Shape.reshapeEquiv _ j) = _
  rw [plane_idx]
  funext a; refine Fin.ext ?_
  match a with
  | ⟨0, _⟩ => show k.val + 1 * 0 = k.val; omega
  | ⟨1, _⟩ => show 0 + 1 * (j 0).val = (j 0).val; omega
  | ⟨2, _⟩ => show 0 + 1 * (j 1).val = (j 1).val; omega
@[inherit_doc gS_emb]
theorem pS_emb (k : Fin 16) (j : S64x1024.Idx) : (pS k).view.emb j = (ix3 k (j 0) (j 1) : S16x64x1024.Idx) := gS_emb k j
@[inherit_doc gS_emb]
theorem rS_emb (k : Fin 15) (j : S64x1024.Idx) : (rS k).view.emb j = (ix3 k (j 0) (j 1) : S15x64x1024.Idx) := by
  show (r15 k).emb (Shape.reshapeEquiv _ j) = _
  rw [plane_idx]
  funext a; refine Fin.ext ?_
  match a with
  | ⟨0, _⟩ => show k.val + 1 * 0 = k.val; omega
  | ⟨1, _⟩ => show 0 + 1 * (j 0).val = (j 0).val; omega
  | ⟨2, _⟩ => show 0 + 1 * (j 1).val = (j 1).val; omega

/-! ## The elements -/

open scoped Classical in
/-- The elements of slot `k` of a buffer of sixteen, and of the buffer of fifteen. -/
def el16 (k : Fin 16) : Finset S16x64x1024.Idx := Finset.univ.filter fun i => i 0 = k
open scoped Classical in
@[inherit_doc el16] def el15 (k : Fin 15) : Finset S15x64x1024.Idx := Finset.univ.filter fun i => i 0 = k
open scoped Classical in
/-- The elements of slot 0 and of the slots of the copies `rem`. -/
def rest (rem : List (Fin 15)) : Finset S16x64x1024.Idx := Finset.univ.filter fun i => i 0 = (0 : Fin 16) ∨ ∃ k ∈ rem, i 0 = k.succ

theorem mem_el16 {k : Fin 16} {i : S16x64x1024.Idx} : i ∈ el16 k ↔ i 0 = k := by simp only [el16, Finset.mem_filter, Finset.mem_univ, true_and]
theorem mem_el15 {k : Fin 15} {i : S15x64x1024.Idx} : i ∈ el15 k ↔ i 0 = k := by simp only [el15, Finset.mem_filter, Finset.mem_univ, true_and]
theorem mem_rest {rem : List (Fin 15)} {i : S16x64x1024.Idx} : i ∈ rest rem ↔ i 0 = (0 : Fin 16) ∨ ∃ k ∈ rem, i 0 = k.succ := by
  simp only [rest, Finset.mem_filter, Finset.mem_univ, true_and]

theorem gS_set (k : Fin 16) : (gS k).view.set = el16 k := by
  ext i
  rw [mem_el16]
  constructor
  · intro h
    obtain ⟨j, -, rfl⟩ := Finset.mem_map.mp h
    rw [gS_emb]
  · intro h
    refine Finset.mem_map.mpr ⟨ix2 (i 1) (i 2), Finset.mem_univ _, ?_⟩
    rw [gS_emb, ← h]
    exact (eq_ix3 i).symm
theorem pS_set (k : Fin 16) : (pS k).view.set = el16 k := gS_set k
theorem rS_set (k : Fin 15) : (rS k).view.set = el15 k := by
  ext i
  rw [mem_el15]
  constructor
  · intro h
    obtain ⟨j, -, rfl⟩ := Finset.mem_map.mp h
    rw [rS_emb]
  · intro h
    refine Finset.mem_map.mpr ⟨ix2 (i 1) (i 2), Finset.mem_univ _, ?_⟩
    rw [rS_emb, ← h]
    exact (eq_ix3 i).symm

theorem rest_nil : rest [] = el16 0 := by
  ext i; rw [mem_rest, mem_el16]; simp only [List.not_mem_nil, false_and, exists_false, or_false]
theorem rest_cons (k : Fin 15) (rem : List (Fin 15)) : rest (k :: rem) = el16 k.succ ∪ rest rem := by
  ext i
  rw [Finset.mem_union, mem_rest, mem_rest, mem_el16]
  simp only [List.mem_cons, exists_eq_or_imp]
  tauto
theorem rest_disjoint {k : Fin 15} {rem : List (Fin 15)} (h : k ∉ rem) : Disjoint (el16 k.succ) (rest rem) := by
  rw [Finset.disjoint_left]
  intro i hi hr
  rw [mem_el16] at hi
  rcases mem_rest.mp hr with h0 | ⟨k', hk', e⟩
  · exact Fin.succ_ne_zero k (hi.symm.trans h0)
  · exact h (Fin.succ_injective _ (hi.symm.trans e) ▸ hk')
theorem rest_ks : rest ks = Finset.univ := by
  ext i
  rw [mem_rest]
  refine ⟨fun _ => Finset.mem_univ _, fun _ => ?_⟩
  have h : ∀ a : Fin 16, a = 0 ∨ ∃ k ∈ ks, a = k.succ := by decide
  exact h (i 0)

theorem el15_disjoint {k k' : Fin 15} (h : k ≠ k') : Disjoint (el15 k) (el15 k') := by
  rw [Finset.disjoint_left]; intro i hi hi'
  exact h ((mem_el15.mp hi).symm.trans (mem_el15.mp hi'))

/-! ## The rectangles of the loads and stores -/

theorem r4_emb (g : Fin 4) (i : S16x64x1024.Idx) (h : grp (i 0) = g) :
    (r4 g).emb (ix3 (plc (i 0)) (i 1) (i 2)) = i := by
  subst h
  funext a; refine Fin.ext ?_
  match a with
  | ⟨0, _⟩ => show 4 * ((i 0).val / 4) + 1 * ((i 0).val % 4) = (i 0).val; omega
  | ⟨1, _⟩ => show 0 + 1 * (i 1).val = (i 1).val; omega
  | ⟨2, _⟩ => show 0 + 1 * (i 2).val = (i 2).val; omega

theorem r4_set (g : Fin 4) (i : S16x64x1024.Idx) (h : i ∈ (r4 g).set) : grp (i 0) = g := by
  have h0 := (Rect.mem_set_unit.mp h) (0 : Fin 3)
  refine Fin.ext ?_
  have h1 : 4 * g.val ≤ (i 0).val ∧ (i 0).val < 4 * g.val + 4 := h0
  show (i 0).val / 4 = g.val
  omega

theorem r16_emb (i : S16x64x1024.Idx) (k : Fin 16) (h : i 0 = k) : (r16 k).emb (ix3 0 (i 1) (i 2)) = i := by
  subst h
  funext a; refine Fin.ext ?_
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega
theorem r16_set (k : Fin 16) (i : S16x64x1024.Idx) (h : i ∈ (r16 k).set) : i 0 = k := by
  have h0 := (Rect.mem_set_unit.mp h) (0 : Fin 3)
  refine Fin.ext ?_
  have h1 : k.val ≤ (i 0).val ∧ (i 0).val < k.val + 1 := h0
  show (i 0).val = k.val
  omega
theorem r15_set (k : Fin 15) (i : S15x64x1024.Idx) (h : i ∈ (r15 k).set) : i 0 = k := by
  have h0 := (Rect.mem_set_unit.mp h) (0 : Fin 3)
  refine Fin.ext ?_
  have h1 : k.val ≤ (i 0).val ∧ (i 0).val < k.val + 1 := h0
  show (i 0).val = k.val
  omega

/-- The elements a load or a store of a whole buffer at a rectangle touches are the rectangle's. -/
theorem setOn_whole (b : Ref sig .tc) (M : Finset b.ty.shape.Idx) : (View.whole b).setOn M = M := by
  unfold View.setOn; exact Finset.map_refl
theorem access_whole (b : Ref sig .tc) (r : Rect b.ty.shape) (M : Finset r.shape.Idx) : (((Memref.whole b).access r : View sig .tc _ _ _).setOn M : Finset b.ty.shape.Idx) ⊆ r.set := by
  intro i hi
  obtain ⟨j, -, rfl⟩ := Finset.mem_map.mp hi
  exact r.mem_set.mpr fun a => ⟨j a, (j a).isLt, rfl⟩

/-! ## What a copy leaves -/

/-- Copy `k` of the all-gather leaves the sender's block in slot `k + 1` of the device `k + 1` after. -/
theorem agSend_lands (x : Dev nD → Vec F S64x1024 .bf16) (c : Dev nD) (k : Fin 15) (fd : Vec F S16x64x1024 .bf16) (i : S16x64x1024.Idx) (h : i ∈ el16 k.succ) :
    ((gS k.succ).view.write (Elt F) fd ((gS 0).view.read (Elt F) (gathered x c)) Finset.univ) i = gathered x (up c k) i := by
  rw [← gS_set] at h
  obtain ⟨j, -, rfl⟩ := Finset.mem_map.mp h
  rw [View.write_emb_of_mem _ _ (Finset.mem_univ _)]
  show gathered x c ((gS 0).view.emb j) = gathered x (up c k) ((gS k.succ).view.emb j)
  rw [gS_emb, gS_emb]
  show x (back c 0) _ = x (back (up c k) k.succ) _
  rw [back_zero, back_succ, dn_up]

/-- Copy `k` of the reduce-scatter leaves the sender's partial product in slot `k` of the device `k + 1` before. -/
theorem rsSend_lands (x : Dev nD → Vec F S64x1024 .bf16) (wi : Dev nD → Vec F S1024x2048 .bf16) (wo : Dev nD → Vec F S2048x1024 .bf16) (c : Dev nD) (k : Fin 15)
    (fd : Vec F S15x64x1024 .bf16) (f : Vec F S16x64x1024 .bf16) (hf : ∀ i ∈ el16 k.succ, f i = partB x wi wo c i) (i : S15x64x1024.Idx) (h : i ∈ el15 k) :
    ((rS k).view.write (Elt F) fd ((pS k.succ).view.read (Elt F) f) Finset.univ) i = recvd x wi wo (dn c k) i := by
  rw [← rS_set] at h
  obtain ⟨j, -, rfl⟩ := Finset.mem_map.mp h
  rw [View.write_emb_of_mem _ _ (Finset.mem_univ _)]
  show f ((pS k.succ).view.emb j) = recvd x wi wo (dn c k) ((rS k).view.emb j)
  rw [hf _ (by rw [mem_el16, pS_emb]), pS_emb, rS_emb]
  show _ = partB x wi wo (up (dn c k) k) (ix3 k.succ (j 0) (j 1))
  rw [up_dn]

/-! ## What a store leaves -/

/-- A group's partial products stored: the group's slots hold them, the others what they held. -/
theorem partB_stored (x : Dev nD → Vec F S64x1024 .bf16) (wi : Dev nD → Vec F S1024x2048 .bf16) (wo : Dev nD → Vec F S2048x1024 .bf16) (c : Dev nD) (g : Fin 4)
    (f : Vec F S16x64x1024 .bf16) (i : S16x64x1024.Idx) (h : grp (i 0) = g) :
    ((pM.access (r4 g) : View sig .tc _ _ _).write (Elt F) f (k0_pay4 (gathered4 x c g) (wi c) (wo c)) Finset.univ) i = partB x wi wo c i := by
  have e : (pM.access (r4 g) : View sig .tc _ _ _).emb (ix3 (plc (i 0)) (i 1) (i 2)) = i := r4_emb g i h
  conv_lhs => rw [← e]
  rw [View.write_emb_of_mem _ _ (Finset.mem_univ _)]
  subst h; rfl
@[inherit_doc partB_stored]
theorem part_stored (x : Dev nD → Vec F S64x1024 .bf16) (wi : Dev nD → Vec F S1024x2048 .bf16) (wo : Dev nD → Vec F S2048x1024 .bf16) (c : Dev nD) (g : Fin 4)
    (f : Vec F S16x64x1024 .f32) (i : S16x64x1024.Idx) (h : grp (i 0) = g) :
    ((aM.access (r4 g) : View sig .tc _ _ _).write (Elt F) f (k0_pay3 (gathered4 x c g) (wi c) (wo c)) Finset.univ) i = part x wi wo c i := by
  have e : (aM.access (r4 g) : View sig .tc _ _ _).emb (ix3 (plc (i 0)) (i 1) (i 2)) = i := r4_emb g i h
  conv_lhs => rw [← e]
  rw [View.write_emb_of_mem _ _ (Finset.mem_univ _)]
  subst h; rfl
/-- A group's store leaves the other groups' slots alone. -/
theorem part_kept (w : Vec F S4x64x1024 .f32) (g : Fin 4) (f : Vec F S16x64x1024 .f32) (i : S16x64x1024.Idx) (h : grp (i 0) ≠ g) :
    ((aM.access (r4 g) : View sig .tc _ _ _).write (Elt F) f w Finset.univ) i = f i :=
  View.write_of_not_mem _ _ _ fun hi => h (r4_set g i (access_whole cc0_scratch1 (r4 g) _ hi))

/-- A block stored in slot 0, as the slot of a whole gathered buffer. -/
theorem put_stored (x : Dev nD → Vec F S64x1024 .bf16) (c : Dev nD) (v : Vec F S1x64x1024 .bf16)
    (hv : ∀ (a : Fin 64) (b : Fin 1024), v (ix3 0 a b) = x c (ix2 a b)) (f : Vec F S16x64x1024 .bf16) (i : S16x64x1024.Idx) (h : i ∈ el16 0) :
    ((gM.access (r16 0) : View sig .tc _ _ _).write (Elt F) f v Finset.univ) i = gathered x c i := by
  have h0 := mem_el16.mp h
  have e : (gM.access (r16 0) : View sig .tc _ _ _).emb (ix3 0 (i 1) (i 2)) = i := r16_emb i 0 h0
  conv_lhs => rw [← e]
  rw [View.write_emb_of_mem _ _ (Finset.mem_univ _)]
  refine (hv (i 1) (i 2)).trans ?_
  show _ = x (back c (i 0)) _
  rw [h0, back_zero]

theorem pay1_apply (v : Vec F S64x1024 .bf16) (a : Fin 64) (b : Fin 1024) : k0_pay1 v (ix3 0 a b) = v (ix2 a b) := by
  unfold k0_pay1
  rw [shapeCast_self]
  refine (shapeCast_addUnit_apply ![64, 1024] v shapeCasts_S64x1024_S1x64x1024 (ix3 0 a b)).trans (congrArg v ?_)
  funext d; match d with | ⟨0, _⟩ => rfl | ⟨1, _⟩ => rfl
theorem pay22_apply (y : FVec F S64x1024 .f32) (a : Fin 64) (b : Fin 1024) : k0_pay22 y (ix3 0 a b) = rounded y (ix2 a b) := by
  unfold k0_pay22
  refine (shapeCast_addUnit_apply ![64, 1024] (rounded y) shapeCasts_S64x1024_S1x64x1024 (ix3 0 a b)).trans (congrArg (rounded y) ?_)
  funext d; match d with | ⟨0, _⟩ => rfl | ⟨1, _⟩ => rfl

end Cert.MLP

end
-- ==== Proof.Protocol.lean ====
/-
# The protocol between the devices

Sixty-one semaphores a device: the barrier's, and fifteen each for the sends and the receives of the all-gather and of
the reduce-scatter. Layer `l`'s copies are round `l` of their semaphores. What each completion hands over:

* a barrier signal of `c` to the device `k + 1` after: slot `15 - k` of `c`'s gathered blocks, the slot that device's
  copies fill;
* a copy of the all-gather: to the receiver the slot holding the sender's block, and the slot of the sender's receive
  buffer that the receiver's copy of the same layer's reduce-scatter fills; to the sender its source again;
* a copy of the reduce-scatter: to the receiver the slot holding the partial product and, before the last layer's end,
  the slot of the sender's gathered blocks that the receiver's copy of the next layer fills; to the sender its source.

A slot comes with the record that its owner waits for the round in question.
-/
module

public import proofs.«01_k».proof.Proof.Regions
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.MLP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 15)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The cells -/

/-- The semaphores of a device: the barrier's, and by array and copy the others. -/
abbrev Kind : Type := Option (Fin 4 × Fin 15)
/-- The barrier; the all-gather's sends and receives; the reduce-scatter's. -/
abbrev kBar : Kind := none
@[inherit_doc kBar] abbrev kAgS (k : Fin 15) : Kind := some (0, k)
@[inherit_doc kBar] abbrev kAgR (k : Fin 15) : Kind := some (1, k)
@[inherit_doc kBar] abbrev kRsS (k : Fin 15) : Kind := some (2, k)
@[inherit_doc kBar] abbrev kRsR (k : Fin 15) : Kind := some (3, k)

/-- The semaphore of a kind. -/
def csem : Kind → SemLoc sig
  | none => .reg barS
  | some (0, k) => .dma (agS k)
  | some (1, k) => .dma (agR k)
  | some (2, k) => .dma (rsS k)
  | some (3, k) => .dma (rsR k)

/-- The kind of a semaphore; the pipeline's own have none. -/
def kindOf : SemLoc sig → Option Kind
  | .reg s => if s = barS then some none else none
  | .dma q => if h : 8 ≤ q.val ∧ q.val < 68 then some (some (⟨(q.val - 8) / 15, by omega⟩, ⟨(q.val - 8) % 15, Nat.mod_lt _ (by decide)⟩)) else none

theorem kindOf_csem (κ : Kind) : kindOf (csem κ) = some κ := by revert κ; decide

theorem csem_injective : Function.Injective csem := fun a b h => by
  have := congrArg kindOf h
  rw [kindOf_csem, kindOf_csem] at this
  exact Option.some.inj this

/-- The cell of a kind on a device. -/
abbrev cell (c : Dev nD) (κ : Kind) : GSem nD τ sig := ((c : Thread nD τ), csem κ)

/-- The bytes one copy credits. -/
abbrev N : ℕ := (gS 0).view.dmaCredit
theorem N_pos : 0 < N := View.dmaCredit_pos _ (by decide)

/-! ## What is held -/

/-- Slot `k` of `c`'s gathered blocks held at share `q` with contents `f`; -/
def gPts (c : Dev nD) (k : Fin 16) (q : PosShare TreeShare) (f : Vec F S16x64x1024 .bf16) : sProp 𝕄 :=
  (gS k).view.loc (c : Thread nD τ) ↦[(gS k).view.set]{q} f
/-- of its partial products; -/
def pPts (c : Dev nD) (k : Fin 16) (f : Vec F S16x64x1024 .bf16) : sProp 𝕄 :=
  (pS k).view.loc (c : Thread nD τ) ↦[(pS k).view.set]{fullShare} f
/-- of the partial products it receives. -/
def rPts (c : Dev nD) (k : Fin 15) (f : Vec F S15x64x1024 .bf16) : sProp 𝕄 :=
  (rS k).view.loc (c : Thread nD τ) ↦[(rS k).view.set]{fullShare} f

omit [FloatOps F] in
instance gPts_storable (c : Dev nD) (k q f) : BI.Storable (upEmb : UEmb _ 𝕄) (gPts (F := F) c k q f) := by unfold gPts; infer_instance
omit [FloatOps F] in
instance pPts_storable (c : Dev nD) (k f) : BI.Storable (upEmb : UEmb _ 𝕄) (pPts (F := F) c k f) := by unfold pPts; infer_instance
omit [FloatOps F] in
instance rPts_storable (c : Dev nD) (k f) : BI.Storable (upEmb : UEmb _ 𝕄) (rPts (F := F) c k f) := by unfold rPts; infer_instance

/-- Of the source of the all-gather's copies, the share copy `k` reads through. -/
abbrev qk (k : Fin 15) : PosShare TreeShare := Transfers.shareTok fullShare 15 k

/-- Permission to fill slot `k + 1` of the device `k + 1` after in layer `l`. -/
def gPerm (c : Dev nD) (l : ℕ) (k : Fin 15) : sProp 𝕄 :=
  iprop((∃ f, gPts (up c k) k.succ fullShare f) ∗ reached ER (cell (up c k) (kAgR k)) l)
/-- Permission to fill slot `k` of the receive buffer of the device `k + 1` before in layer `l`. -/
def rPerm (c : Dev nD) (l : ℕ) (k : Fin 15) : sProp 𝕄 :=
  iprop((∃ f, rPts (dn c k) k f) ∗ reached ER (cell (dn c k) (kRsR k)) l)

/-- The permissions device `c` fills slots by in layer `l`; past the last layer its own slot again instead. -/
def gNext (c : Dev nD) (l : ℕ) (k : Fin 15) : sProp 𝕄 := if l < 3 then gPerm c l k else iprop(emp)

omit [FloatOps F] in
instance gPerm_storable (c : Dev nD) (l k) : BI.Storable (upEmb : UEmb _ 𝕄) (gPerm (F := F) c l k) := by unfold gPerm; infer_instance
omit [FloatOps F] in
instance rPerm_storable (c : Dev nD) (l k) : BI.Storable (upEmb : UEmb _ 𝕄) (rPerm (F := F) c l k) := by unfold rPerm; infer_instance
omit [FloatOps F] in
instance gNext_storable (c : Dev nD) (l k) : BI.Storable (upEmb : UEmb _ 𝕄) (gNext (F := F) c l k) := by unfold gNext; split <;> infer_instance

/-- The copy that goes the other way around: `c`'s signal `k` reaches the device whose copy `opp k` reaches `c`. -/
def opp (k : Fin 15) : Fin 15 := ⟨14 - k.val, by omega⟩
theorem opp_opp (k : Fin 15) : opp (opp k) = k := by revert k; decide
theorem dn_eq_up (c : Dev nD) (k : Fin 15) : dn c k = up c (opp k) := by revert c k; decide
theorem up_eq_dn (c : Dev nD) (k : Fin 15) : up c k = dn c (opp k) := by revert c k; decide

/-! ## The schedule -/

variable (I : Inputs F)

/-- What the completion at a cell of kind `κ` of device `c` hands over in round `l`, by duty. -/
def payOf (c : Dev nD) (l : ℕ) (d : Fin 15) : Kind → sProp 𝕄
  | none => iprop(∃ f, gPts (dn c d) (opp d).succ fullShare f)
  | some (0, k) => gPts c 0 (qk k) (I.G l c)
  | some (1, k) => iprop(gPts c k.succ fullShare (I.G l c) ∗ rPerm c l k)
  | some (2, k) => iprop(∃ f, pPts c k.succ f)
  | some (3, k) => iprop(rPts c k (I.R l c) ∗ gNext c (l + 1) k)

instance payOf_storable (c : Dev nD) (l d) (κ : Kind) : BI.Storable (upEmb : UEmb _ 𝕄) (payOf I c l d κ) := by
  unfold payOf; split <;> infer_instance

/-- The duties of a kind by round: fifteen signals in round 0, one copy in each of three rounds. -/
def dutiesOf (r : ℕ) : Kind → Finset (Fin 15)
  | none => if r = 0 then Finset.univ else ∅
  | some _ => if r < 3 then {0} else ∅

/-- The units a kind's completion credits. -/
def unitsOf : Kind → ℕ
  | none => 1
  | some _ => N

theorem unitsOf_pos (κ : Kind) : 0 < unitsOf κ := by
  cases κ with
  | none => exact Nat.one_pos
  | some _ => exact N_pos

/-- The schedule. -/
def Rd : Rounds.Schedule (GSem nD τ sig) (Fin 15) 𝕄 where
  duties g r := if g.1.2 = .tc then ((kindOf g.2).map (dutiesOf r)).getD ∅ else ∅
  unitless _ := False
  amount g _ _ := ((kindOf g.2).map unitsOf).getD 1
  payload g r d := ((kindOf g.2).map (payOf I g.1.1 r d)).getD iprop(emp)
  amount_pos g _ _ _ := by
    cases kindOf g.2 with
    | none => exact Nat.one_pos
    | some κ => exact unitsOf_pos κ

instance Rd_payload_storable (g : GSem nD τ sig) (r : ℕ) (d : Fin 15) : BI.Storable (upEmb : UEmb _ 𝕄) ((Rd I).payload g r d) := by
  show BI.Storable upEmb (((kindOf g.2).map (payOf I g.1.1 r d)).getD iprop(emp))
  cases kindOf g.2 with
  | none => show BI.Storable upEmb iprop(emp); infer_instance
  | some κ => exact payOf_storable I g.1.1 r d κ

theorem duties_cell (c : Dev nD) (κ : Kind) (r : ℕ) : (Rd I).duties (cell c κ) r = dutiesOf r κ := by
  show (if (c : Thread nD τ).2 = .tc then ((kindOf (csem κ)).map (dutiesOf r)).getD ∅ else ∅) = _
  rw [if_pos rfl, kindOf_csem]; rfl
theorem amount_cell (c : Dev nD) (κ : Kind) (r : ℕ) (d : Fin 15) : (Rd I).amount (cell c κ) r d = unitsOf κ := by
  show ((kindOf (csem κ)).map unitsOf).getD 1 = _
  rw [kindOf_csem]; rfl
theorem payload_cell (c : Dev nD) (κ : Kind) (r : ℕ) (d : Fin 15) : (Rd I).payload (cell c κ) r d = payOf I c r d κ := by
  show ((kindOf (csem κ)).map (payOf I c r d)).getD iprop(emp) = _
  rw [kindOf_csem]; rfl

theorem mem_duties (c : Dev nD) (p : Fin 4 × Fin 15) {r : ℕ} (hr : r < 3) : (0 : Fin 15) ∈ (Rd I).duties (cell c (some p)) r := by
  rw [duties_cell]; show (0 : Fin 15) ∈ (if r < 3 then {0} else ∅ : Finset (Fin 15)); rw [if_pos hr]; exact Finset.mem_singleton_self _
theorem mem_duties_bar (c : Dev nD) (k : Fin 15) : k ∈ (Rd I).duties (cell c kBar) 0 := by
  rw [duties_cell]; exact Finset.mem_univ _

theorem expect_copy (c : Dev nD) (p : Fin 4 × Fin 15) {r : ℕ} (hr : r < 3) : (Rd I).expect (cell c (some p)) r = N := by
  unfold Schedule.expect Schedule.amountOf
  rw [duties_cell]
  show ∑ d ∈ (if r < 3 then {0} else ∅ : Finset (Fin 15)), _ = _
  rw [if_pos hr, Finset.sum_singleton, amount_cell]; rfl
theorem expect_bar (c : Dev nD) : (Rd I).expect (cell c kBar) 0 = 15 := by
  unfold Schedule.expect Schedule.amountOf
  rw [duties_cell, Finset.sum_congr rfl fun d _ => amount_cell I c kBar 0 d]
  show ∑ d ∈ (Finset.univ : Finset (Fin 15)), 1 = 15
  decide

/-- The whole payload of a copy's round; -/
theorem rest_copy (c : Dev nD) (p : Fin 4 × Fin 15) {r : ℕ} (hr : r < 3) :
    bigSep ((Rd I).duties (cell c (some p)) r \ ∅) (fun d => (Rd I).payload (cell c (some p)) r d) = payOf I c r 0 (some p) := by
  rw [Finset.sdiff_empty, duties_cell]
  show bigSep (if r < 3 then {0} else ∅ : Finset (Fin 15)) _ = _
  rw [if_pos hr, bigSep_singleton, payload_cell]
/-- of the barrier's. -/
theorem rest_bar (c : Dev nD) :
    bigSep ((Rd I).duties (cell c kBar) 0 \ ∅) (fun d => (Rd I).payload (cell c kBar) 0 d)
      = bigSep Finset.univ fun d : Fin 15 => iprop(∃ f, gPts (dn c d) (opp d).succ fullShare f) := by
  rw [Finset.sdiff_empty, duties_cell]
  show bigSep (Finset.univ : Finset (Fin 15)) _ = _
  exact bigSep_congr fun d _ => payload_cell I c kBar 0 d

theorem duties_done (c : Dev nD) (p : Fin 4 × Fin 15) : ∀ r, 3 ≤ r → (Rd I).duties (cell c (some p)) r = ∅ := fun r hr => by
  rw [duties_cell]; exact if_neg (by omega)
theorem duties_done_bar (c : Dev nD) : ∀ r, 1 ≤ r → (Rd I).duties (cell c kBar) r = ∅ := fun r hr => by
  rw [duties_cell]; exact if_neg (by omega)

/-! ## What a device owes, and the levels it waits at -/

/-- The credits a device owes for the copies `rem` of layer `l`'s all-gather; -/
def oweG (c : Dev nD) (l : ℕ) (rem : List (Fin 15)) : CellTallies nD τ sig ℕ := (rem.map fun k => tallyAt (cell (up c k) (kAgR k)) l N).sum
/-- of its reduce-scatter; -/
def oweR (c : Dev nD) (l : ℕ) (rem : List (Fin 15)) : CellTallies nD τ sig ℕ := (rem.map fun k => tallyAt (cell (dn c k) (kRsR k)) l N).sum
/-- for the signals `rem` of the handshake. -/
def oweB (c : Dev nD) (rem : List (Fin 15)) : CellTallies nD τ sig ℕ := (rem.map fun k => tallyAt (cell (up c k) kBar) 0 1).sum

/-- The credits owed for `n` layers from layer `l` on. -/
def oweL (c : Dev nD) : ℕ → ℕ → CellTallies nD τ sig ℕ
  | _, 0 => 0
  | l, n + 1 => oweG c l ks + (oweR c l ks + oweL c (l + 1) n)

/-- All a device owes at launch. -/
def owe₀ (c : Dev nD) : CellTallies nD τ sig ℕ := oweL c 0 3 + oweB c ks

theorem oweG_cons (c : Dev nD) (l : ℕ) (k : Fin 15) (rem) : oweG c l (k :: rem) = oweG c l rem + tallyAt (cell (up c k) (kAgR k)) l N := by
  unfold oweG; rw [List.map_cons, List.sum_cons, add_comm]
theorem oweR_cons (c : Dev nD) (l : ℕ) (k : Fin 15) (rem) : oweR c l (k :: rem) = oweR c l rem + tallyAt (cell (dn c k) (kRsR k)) l N := by
  unfold oweR; rw [List.map_cons, List.sum_cons, add_comm]
theorem oweB_cons (c : Dev nD) (k : Fin 15) (rem) : oweB c (k :: rem) = oweB c rem + tallyAt (cell (up c k) kBar) 0 1 := by
  unfold oweB; rw [List.map_cons, List.sum_cons, add_comm]
theorem oweG_nil (c : Dev nD) (l : ℕ) : oweG c l [] = 0 := rfl
theorem oweR_nil (c : Dev nD) (l : ℕ) : oweR c l [] = 0 := rfl
theorem oweB_nil (c : Dev nD) : oweB c [] = 0 := rfl

/-- The indices in use: the three layers, at the devices' cores. -/
def L (g : GSem nD τ sig) : Finset ℕ := if g.1.2 = .tc then Finset.range 3 else ∅
/-- The levels: the barrier below the receives, these by layer, the all-gather's below the reduce-scatter's; all else at
    the bottom. -/
def lvOf (l : ℕ) : Option Kind → ℕ
  | some none => 1
  | some (some (1, _)) => 2 + 2 * l
  | some (some (3, _)) => 3 + 2 * l
  | _ => 0
@[inherit_doc lvOf] def lv (g : GSem nD τ sig) (l : ℕ) : ℕ := lvOf l (kindOf g.2)

theorem L_of_ne (g : GSem nD τ sig) (h : g.1.2 ≠ .tc) : L g = ∅ := if_neg h
theorem L_tc (c : Dev nD) (sm : SemLoc sig) : L ((c : Thread nD τ), sm) = Finset.range 3 := if_pos rfl
theorem lv_cell (c : Dev nD) (κ : Kind) (l : ℕ) : lv (cell c κ) l = lvOf l (some κ) := by
  unfold lv; show lvOf l (kindOf (csem κ)) = _; rw [kindOf_csem]

/-- Everything owed lies above level `n`, at an index in use. -/
def Above (n : ℕ) (O : CellTallies nD τ sig ℕ) : Prop := ∀ g u, 0 < O g u → u ∈ L g ∧ n < lv g u

theorem above_zero (n : ℕ) : Above n 0 := fun _ _ h => absurd h (Nat.lt_irrefl 0)
theorem above_add {n : ℕ} {O O' : CellTallies nD τ sig ℕ} (h : Above n O) (h' : Above n O') : Above n (O + O') := fun g u hg => by
  rw [Pi.add_apply, Finsupp.add_apply] at hg
  rcases Nat.pos_of_ne_zero (n := O g u) |> fun p => (Nat.eq_zero_or_pos (O g u)).imp id id with h0 | h0
  · exact h' g u (by omega)
  · exact h g u h0
theorem above_tally {n : ℕ} (c : Dev nD) (κ : Kind) (l k : ℕ) (hl : l < 3) (h : n < lvOf l (some κ)) : Above n (tallyAt (cell c κ) l k) := fun g u hg => by
  rw [tallyAt_apply] at hg
  by_cases e : g = cell c κ ∧ u = l
  · obtain ⟨rfl, rfl⟩ := e
    exact ⟨by rw [L_tc]; exact Finset.mem_range.mpr hl, by rw [lv_cell]; exact h⟩
  · rw [if_neg e] at hg; exact absurd hg (Nat.lt_irrefl 0)
theorem above_sum {n : ℕ} {β : Type} (xs : List β) (f : β → CellTallies nD τ sig ℕ) (h : ∀ x, Above n (f x)) : Above n (xs.map f).sum := by
  induction xs with
  | nil => exact above_zero n
  | cons x xs ih => rw [List.map_cons, List.sum_cons]; exact above_add (h x) ih

theorem above_oweG {n : ℕ} (c : Dev nD) (l : ℕ) (rem) (hl : l < 3) (h : n < 2 + 2 * l) : Above n (oweG c l rem) :=
  above_sum rem _ fun k => above_tally _ _ _ _ hl h
theorem above_oweR {n : ℕ} (c : Dev nD) (l : ℕ) (rem) (hl : l < 3) (h : n < 3 + 2 * l) : Above n (oweR c l rem) :=
  above_sum rem _ fun k => above_tally _ _ _ _ hl h
theorem above_oweB {n : ℕ} (c : Dev nD) (rem) (h : n < 1) : Above n (oweB c rem) :=
  above_sum rem _ fun k => above_tally _ _ _ _ (by decide) h
theorem above_oweL {m : ℕ} (c : Dev nD) (n l : ℕ) (hl : l + n ≤ 3) (h : m < 2 + 2 * l) : Above m (oweL c l n) := by
  induction n generalizing l with
  | zero => exact above_zero m
  | succ n ih => exact above_add (above_oweG c l ks (by omega) h) (above_add (above_oweR c l ks (by omega) (by omega)) (ih (l + 1) (by omega) (by omega)))

omit [FloatOps F] in
/-- A wait is allowed when everything owed lies above its level. -/
theorem mayWait (c : Dev nD) (sm : SemLoc sig) (l : ℕ) (hl : l < 3) (n : ℕ) (hn : lv ((c : Thread nD τ), sm) l ≤ n) {O : CellTallies nD τ sig ℕ} (hO : Above n O) :
    (levAts L lv : sProp 𝕄) ⊢ MayWait (c : Thread nD τ) sm l O :=
  MayOwe.of_cut (L := L) (lev := lv) n
    (fun p hp => by rw [Finset.mem_singleton.mp hp, L_tc]; exact Finset.mem_range.mpr hl)
    (fun g u hg => (hO g u hg).1)
    (fun p hp => by rw [Finset.mem_singleton.mp hp]; exact hn)
    (fun g u hg => (hO g u hg).2)

end Cert.MLP

end
-- ==== Proof.Steps.lean ====
/-
# The steps of a layer

Each loop of the body under the protocol: what one step takes and gives, and the loop from the step (`wp_loop`).
-/
module

public import proofs.«01_k».proof.Proof.Protocol

@[expose] public section

set_option maxRecDepth 16384

noncomputable section

namespace Cert.MLP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a piece of device `c`'s body. -/
abbrev wpc {α : Type} (c : Dev nD) (p : Pg F α) (Q : α → sProp 𝕄) : sProp 𝕄 :=
  wp frame (wpE (defs₀ (F := F)) 𝒱₀ (c : Thread nD τ) none) Set.univ p Q

/-! ## Conjunctions over a list -/

section Over
variable {β : Type} {M : Type} [URA M]

/-- `A` at every element of a list. -/
def over : List β → (β → sProp M) → sProp M
  | [], _ => iprop(emp)
  | x :: xs, A => iprop(A x ∗ over xs A)

theorem over_nil (A : β → sProp M) : over [] A = iprop(emp) := rfl
theorem over_cons (x : β) (xs : List β) (A : β → sProp M) : over (x :: xs) A = iprop(A x ∗ over xs A) := rfl

theorem over_mono {A B : β → sProp M} (xs : List β) (h : ∀ x ∈ xs, A x ⊢ B x) : over xs A ⊢ over xs B := by
  induction xs with
  | nil => exact .rfl
  | cons x xs ih => exact BIClass.sep_mono (h x (List.mem_cons_self ..)) (ih fun y hy => h y (List.mem_cons_of_mem _ hy))

theorem over_sep (xs : List β) (A B : β → sProp M) : over xs (fun x => iprop(A x ∗ B x)) ⊣⊢ iprop(over xs A ∗ over xs B) := by
  induction xs with
  | nil =>
    constructor
    · iintro -; isplitr <;> iempintro
    · iintro -; iempintro
  | cons x xs ih =>
    rw [over_cons, over_cons, over_cons]
    constructor
    · iintro ⟨⟨HA, HB⟩, H⟩
      ihave H' := ih.1 $$ H
      icases H' with ⟨H1, H2⟩
      isplitl [HA H1]
      · isplitl [HA] <;> iassumption
      · isplitl [HB] <;> iassumption
    · iintro ⟨⟨HA, H1⟩, HB, H2⟩
      isplitl [HA HB]
      · isplitl [HA] <;> iassumption
      · iapply ih.2; isplitl [H1] <;> iassumption

/-- Two conjunctions redistributed element by element. -/
theorem over_re (xs : List β) {A B C D : β → sProp M} (h : ∀ x, iprop(A x ∗ B x) ⊢ iprop(C x ∗ D x)) : iprop(over xs A ∗ over xs B) ⊢ iprop(over xs C ∗ over xs D) :=
  (over_sep xs A B).2.trans ((over_mono xs fun x _ => h x).trans (over_sep xs C D).1)

theorem over_append (xs ys : List β) (A : β → sProp M) : over (xs ++ ys) A ⊣⊢ iprop(over xs A ∗ over ys A) := by
  induction xs with
  | nil =>
    constructor
    · iintro H; isplitr; · iempintro
      iexact H
    · iintro ⟨-, H⟩; iexact H
  | cons x xs ih =>
    rw [List.cons_append, over_cons, over_cons]
    constructor
    · iintro ⟨HA, H⟩
      ihave H' := ih.1 $$ H
      icases H' with ⟨H1, H2⟩
      isplitl [HA H1]
      · isplitl [HA] <;> iassumption
      · iexact H2
    · iintro ⟨⟨HA, H1⟩, H2⟩
      isplitl [HA]; · iexact HA
      iapply ih.2; isplitl [H1] <;> iassumption

theorem over_flatMap {γ : Type} (xs : List γ) (f : γ → List β) (A : β → sProp M) : over (xs.flatMap f) A ⊣⊢ over xs (fun x => over (f x) A) := by
  induction xs with
  | nil => exact ⟨.rfl, .rfl⟩
  | cons x xs ih =>
    rw [List.flatMap_cons, over_cons]
    exact ⟨(over_append _ _ A).1.trans (sep_mono_right ih.1), (sep_mono_right ih.2).trans (over_append _ _ A).2⟩

theorem over_with {P : sProp M} [BI.Persistent P] {A B : β → sProp M} (xs : List β) (h : ∀ x ∈ xs, iprop(P ∗ A x) ⊢ B x) : iprop(P ∗ over xs A) ⊢ over xs B := by
  induction xs with
  | nil => iintro -; iempintro
  | cons x xs ih =>
    rw [over_cons, over_cons]
    iintro ⟨#HP, HA, H⟩
    isplitl [HA]
    · iapply (h x (List.mem_cons_self ..)); isplitr <;> iassumption
    · iapply (ih fun y hy => h y (List.mem_cons_of_mem _ hy)); isplitr <;> iassumption

theorem over_eq_bigSep [DecidableEq β] (xs : List β) (h : xs.Nodup) (A : β → sProp M) : over xs A = bigSep xs.toFinset A := by
  induction xs with
  | nil => rw [List.toFinset_nil, bigSep_empty]; rfl
  | cons x xs ih =>
    rw [List.nodup_cons] at h
    rw [over_cons, ih h.2, List.toFinset_cons, bigSep_insert (by rw [List.mem_toFinset]; exact h.1)]; rfl

end Over

theorem ks_nodup : ks.Nodup := by decide
theorem ks_univ : ks.toFinset = Finset.univ := by decide
theorem over_ks {M : Type} [URA M] (A : Fin 15 → sProp M) : over ks A = bigSep Finset.univ A := by
  rw [over_eq_bigSep ks ks_nodup, ks_univ]

/-! ## Loops -/

/-- A piece of the body, then the rest of it from what the piece leaves. -/
theorem wpc_bind {α β : Type} (c : Dev nD) (p : Pg F α) (k : α → Pg F β) (Q₁ : α → sProp 𝕄) (Q : β → sProp 𝕄) :
    iprop(wpc c p Q₁ ∗ (∀ a, Q₁ a -∗ wpc c (k a) Q)) ⊢ wpc c (p >>= k) Q := by
  show _ ⊢ wp frame (wpE (defs₀ (F := F)) 𝒱₀ (c : Thread nD τ) none) Set.univ (p >>= k) Q
  rw [wp_bind]; exact wp_wand_r _ _ _

/-- A loop from its step: each step turns its element's `A` into its `B` and carries `R` from the elements left to those
    left after it; `P` is at hand throughout. -/
theorem wp_loop {β : Type} (c : Dev nD) (f : β → Pg F PUnit) (P : sProp 𝕄) [BI.Persistent P] (A B : β → sProp 𝕄) (R : List β → sProp 𝕄) (xs tail : List β)
    (hn : (xs ++ tail).Nodup)
    (step : ∀ x rem, x ∈ xs → (x :: rem).Nodup → iprop(P ∗ A x ∗ R (x :: rem)) ⊢ wpc c (f x) (fun _ => iprop(B x ∗ R rem))) :
    iprop(P ∗ over xs A ∗ R (xs ++ tail)) ⊢ wpc c (loop xs f) (fun _ => iprop(over xs B ∗ R tail)) := by
  induction xs with
  | nil =>
    show iprop(P ∗ over [] A ∗ R tail) ⊢ wpc c (.ret PUnit.unit) _
    rw [wpc, wp_ret]
    iintro ⟨-, -, HR⟩
    imodintro
    isplitr; · iempintro
    iexact HR
  | cons x xs ih =>
    rw [List.cons_append] at hn
    show _ ⊢ wpc c (f x >>= fun _ => loop xs f) _
    rw [over_cons, List.cons_append]
    iintro ⟨#HP, ⟨HA, Hs⟩, HR⟩
    iapply (wpc_bind c (f x) (fun _ => loop xs f) (fun _ => iprop(B x ∗ R (xs ++ tail))))
    isplitl [HA HR]
    · iapply (step x (xs ++ tail) (List.mem_cons_self ..) hn)
      isplitr; · iexact HP
      isplitl [HA] <;> iassumption
    · iintro %_ ⟨HB, HR⟩
      iapply (wp_wand_r _ _ _ (Q := fun _ => iprop(over xs B ∗ R tail)))
      isplitl [Hs HR]
      · iapply (ih (List.nodup_cons.mp hn).2 fun y rem hy hr => step y rem (List.mem_cons_of_mem _ hy) hr)
        isplitr; · iexact HP
        isplitl [Hs] <;> iassumption
      · iintro %_ ⟨HBs, HR⟩
        isplitl [HB HBs]
        · rw [over_cons]; isplitl [HB] <;> iassumption
        · iexact HR

/-- The same for a loop that threads a value, every step's value a function of the one before. -/
theorem wp_fold {β γ : Type} (c : Dev nD) (f : β → γ → Pg F γ) (g : γ → β → γ) (P : sProp 𝕄) [BI.Persistent P] (A B : β → sProp 𝕄) (R : sProp 𝕄) (xs : List β)
    (step : ∀ x y, x ∈ xs → iprop(P ∗ A x ∗ R) ⊢ wpc c (f x y) (fun z => iprop(⌜z = g y x⌝ ∗ B x ∗ R))) (y : γ) :
    iprop(P ∗ over xs A ∗ R) ⊢ wpc c (fold xs f y) (fun z => iprop(⌜z = xs.foldl g y⌝ ∗ over xs B ∗ R)) := by
  induction xs generalizing y with
  | nil =>
    show iprop(P ∗ over [] A ∗ R) ⊢ wpc c (.ret y) _
    rw [wpc, wp_ret]
    iintro ⟨-, -, HR⟩
    imodintro
    isplitr; · ipureintro; rfl
    isplitr; · iempintro
    iexact HR
  | cons x xs ih =>
    show _ ⊢ wpc c (f x y >>= fun z => fold xs f z) _
    rw [over_cons]
    iintro ⟨#HP, ⟨HA, Hs⟩, HR⟩
    iapply (wpc_bind c (f x y) (fun z => fold xs f z) (fun z => iprop(⌜z = g y x⌝ ∗ B x ∗ R)))
    isplitl [HA HR]
    · iapply (step x y (List.mem_cons_self ..))
      isplitr; · iexact HP
      isplitl [HA] <;> iassumption
    · iintro %z ⟨%hz, HB, HR⟩
      subst hz
      iapply (wp_wand_r _ _ _ (Q := fun z => iprop(⌜z = xs.foldl g (g y x)⌝ ∗ over xs B ∗ R)))
      isplitl [Hs HR]
      · iapply (ih (fun x' y' hx' => step x' y' (List.mem_cons_of_mem _ hx')) (g y x))
        isplitr; · iexact HP
        isplitl [Hs] <;> iassumption
      · iintro %w ⟨%hw, HBs, HR⟩
        isplitr; · ipureintro; exact hw
        isplitl [HB HBs]
        · rw [over_cons]; isplitl [HB] <;> iassumption
        · iexact HR

/-! ## What every step has at hand -/

variable (I : Inputs F) (K : Dev nD × Kind → ℕ)

/-- Every cell's invariant, that every cell has reached round 0, and the levels. -/
def recs : sProp 𝕄 :=
  iprop((bigSep Finset.univ fun ck : Dev nD × Kind => cellInv ER (Rd I) (K ck) (cell ck.1 ck.2))
    ∗ (bigSep Finset.univ fun ck : Dev nD × Kind => reached ER (cell ck.1 ck.2) 0) ∗ levAts L lv)

instance recs_persistent : BI.Persistent (recs I K) := by unfold recs; infer_instance

theorem recs_inv (c : Dev nD) (κ : Kind) : recs I K ⊢ cellInv ER (Rd I) (K (c, κ)) (cell c κ) := by
  unfold recs; iintro ⟨H, -, -⟩
  iapply (show (bigSep Finset.univ fun ck : Dev nD × Kind => (cellInv ER (Rd I) (K ck) (cell ck.1 ck.2) : sProp 𝕄)) ⊢ _ from bigSep_elim (Finset.mem_univ (c, κ))); iexact H
theorem recs_reached (c : Dev nD) (κ : Kind) : recs I K ⊢ reached ER (cell c κ) 0 := by
  unfold recs; iintro ⟨-, H, -⟩
  iapply (show (bigSep Finset.univ fun ck : Dev nD × Kind => (reached ER (cell ck.1 ck.2) 0 : sProp 𝕄)) ⊢ _ from bigSep_elim (Finset.mem_univ (c, κ))); iexact H
theorem recs_lev : recs I K ⊢ levAts L lv := by unfold recs; iintro ⟨-, -, H⟩; iexact H

/-- What a device owes, whatever it has waited for. -/
def due (c : Dev nD) (O : CellTallies nD τ sig ℕ) : sProp 𝕄 := iprop(∃ W, owes (c : Thread nD τ) O W)

/-- A wait for a copy of round `l`: the copy's payload, the position moved on. -/
theorem wait_copy (c : Dev nD) (p : Fin 4 × Fin 15) (q : DmaSem sig) (hq : csem (some p) = .dma q)
    {s s' : Shape} {e e' : EltTy} (src : Memref sig .tc .vmem s' e') (dst : Memref sig .tc .vmem s e) (hs : src.view.WordExact) (hd : dst.view.WordExact)
    (hN : dst.view.dmaCredit = N) (l : ℕ) (hl : l < 3) (O : CellTallies nD τ sig ℕ) (hO : Above (lvOf l (some (some p))) O) :
    iprop(recs I K ∗ cred (tallyAt (cell c (some p)) l N) ∗ atPos ER (cell c (some p)) l ∅ 0 ∗ due c O)
      ⊢ wpc c (Prog.lift (.waitDma2 q src dst hs hd))
          (fun _ => iprop(atPos ER (cell c (some p)) (l + 1) ∅ 0 ∗ reached ER (cell c (some p)) (l + 1) ∗ payOf I c l 0 (some p) ∗ due c O)) := by
  have hcell : cell c (some p) = ((c : Thread nD τ), SemLoc.dma q) := by unfold cell; rw [hq]
  unfold due
  iintro ⟨#HP, Hc, Hat, ⟨%W, HO⟩⟩
  have hlv : lv ((c : Thread nD τ), SemLoc.dma q) l ≤ lvOf l (some (some p)) := by rw [← hcell, lv_cell]
  ihave #HI := recs_inv I K c (some p) $$ HP
  ihave #HL := recs_lev I K $$ HP
  rw [← rest_copy I c p hl]
  rw [hcell]
  iapply (Rounds.wp_wait_rest_token 𝒱₀ ER (Rd I) (c : Thread nD τ) none (κ := K (c, some p))
    (wpE_waitDma2_eq 𝒱₀ (c : Thread nD τ) none Set.univ) (Set.mem_univ _) l (O := O) (W := W) (R := l) (m := 0) (T := ∅)
    (by rw [← hcell, expect_copy I c p hl, hN, Nat.zero_add])) $$ [Hc HO Hat]
  · isplitr; · iexact HI
    isplitl [Hc]; · rw [hN]; iexact Hc
    isplitl [HO]; · iexact HO
    isplitr; · iapply (mayWait c (.dma q) l hl _ hlv hO); iexact HL
    iexact Hat
  iintro ⟨HO, Hat, Hr, Hpay⟩
  rw [wp_ret]; imodintro
  isplitl [Hat]; · iexact Hat
  isplitl [Hr]; · iexact Hr
  isplitl [Hpay]; · iexact Hpay
  iexists _; iexact HO

end Cert.MLP

end
-- ==== Proof.Moves.lean ====
/-
# The steps of a layer

What one copy, one wait, one group of products and one added block take and give, under the protocol.
-/
module

public import proofs.«01_k».proof.Proof.Steps

@[expose] public section

set_option maxRecDepth 16384

noncomputable section

namespace Cert.MLP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Dev nD × Kind → ℕ)

/-! ## Buffers and their slots -/

section Slots
variable {β : Type} {ℓ : Loc nD τ sig} {q : PosShare TreeShare} (el : β → Finset (Idx ℓ)) (acc : List β → Finset (Idx ℓ))

/-- A region that is a list of slots and a base, slot by slot. -/
theorem slots_split (hc : ∀ k rem, acc (k :: rem) = el k ∪ acc rem) (hd : ∀ k rem, k ∉ rem → Disjoint (el k) (acc rem)) (f : Buf (Elt F) ℓ) (xs : List β) (hn : xs.Nodup) :
    (ℓ ↦[acc xs]{q} f : sProp 𝕄) ⊣⊢ iprop(over xs (fun k => ℓ ↦[el k]{q} f) ∗ ℓ ↦[acc []]{q} f) := by
  induction xs with
  | nil =>
    rw [over_nil]; constructor
    · iintro H; isplitr; · iempintro
      iexact H
    · iintro ⟨-, H⟩; iexact H
  | cons x xs ih =>
    rw [List.nodup_cons] at hn
    rw [over_cons, hc]
    constructor
    · iintro H
      ihave H' := (pointsTo_union (hd x xs hn.1)).1 $$ H
      icases H' with ⟨H1, H2⟩
      ihave H3 := (ih hn.2).1 $$ H2
      icases H3 with ⟨H3, H4⟩
      isplitl [H1 H3]
      · isplitl [H1] <;> iassumption
      · iexact H4
    · iintro ⟨⟨H1, H3⟩, H4⟩
      iapply (pointsTo_union (hd x xs hn.1)).2
      isplitl [H1]; · iexact H1
      iapply (ih hn.2).2
      isplitl [H3] <;> iassumption

/-- The slots and the base, whatever each holds, are the region, whatever it holds. -/
theorem slots_join (hc : ∀ k rem, acc (k :: rem) = el k ∪ acc rem) (hd : ∀ k rem, k ∉ rem → Disjoint (el k) (acc rem)) (xs : List β) (hn : xs.Nodup) :
    iprop(over xs (fun k => iprop(∃ f : Buf (Elt F) ℓ, ℓ ↦[el k]{q} f)) ∗ ∃ f : Buf (Elt F) ℓ, ℓ ↦[acc []]{q} f) ⊢ (∃ f : Buf (Elt F) ℓ, ℓ ↦[acc xs]{q} f : sProp 𝕄) := by
  induction xs with
  | nil => rw [over_nil]; iintro ⟨-, H⟩; iexact H
  | cons x xs ih =>
    rw [List.nodup_cons] at hn
    rw [over_cons, hc]
    iintro ⟨⟨⟨%f, H1⟩, H3⟩, H4⟩
    ihave H := (ih hn.2) $$ [H3 H4]
    · isplitl [H3] <;> iassumption
    icases H with ⟨%g, H⟩
    iexists _
    iapply (pointsTo_join (hd x xs hn.1))
    isplitl [H1] <;> iassumption

end Slots

/-- The buffer of gathered blocks, and of partial products, held over a region. -/
def gReg (c : Dev nD) (S : Finset S16x64x1024.Idx) (f : Vec F S16x64x1024 .bf16) : sProp 𝕄 := ((c : Thread nD τ).loc cc0_scratch0) ↦[S]{fullShare} f
@[inherit_doc gReg] def pReg (c : Dev nD) (S : Finset S16x64x1024.Idx) (f : Vec F S16x64x1024 .bf16) : sProp 𝕄 := ((c : Thread nD τ).loc cc0_scratch2) ↦[S]{fullShare} f
@[inherit_doc gReg] def aReg (c : Dev nD) (f : Vec F S16x64x1024 .f32) : sProp 𝕄 := ((c : Thread nD τ).loc cc0_scratch1) ↦{fullShare} f

theorem gPts_eq (c : Dev nD) (k : Fin 16) (q : PosShare TreeShare) (f) : gPts (F := F) c k q f = (((c : Thread nD τ).loc cc0_scratch0) ↦[el16 k]{q} f) := by
  unfold gPts; rw [gS_set]
theorem pPts_eq (c : Dev nD) (k : Fin 16) (f) : pPts (F := F) c k f = (((c : Thread nD τ).loc cc0_scratch2) ↦[el16 k]{fullShare} f) := by
  unfold pPts; rw [pS_set]
theorem rPts_eq (c : Dev nD) (k : Fin 15) (f) : rPts (F := F) c k f = (((c : Thread nD τ).loc cc0_scratch3) ↦[el15 k]{fullShare} f) := by
  unfold rPts; rw [rS_set]

/-- A region of the gathered blocks less one slot; -/
theorem gReg_cons (c : Dev nD) {k : Fin 15} {rem : List (Fin 15)} (h : k ∉ rem) (f) : gReg (F := F) c (rest (k :: rem)) f ⊣⊢ iprop(gPts c k.succ fullShare f ∗ gReg c (rest rem) f) := by
  rw [gPts_eq]; unfold gReg; rw [rest_cons]; exact pointsTo_union (rest_disjoint h)
/-- of the partial products. -/
theorem pReg_cons (c : Dev nD) {k : Fin 15} {rem : List (Fin 15)} (h : k ∉ rem) (f) : pReg (F := F) c (rest (k :: rem)) f ⊣⊢ iprop(pPts c k.succ f ∗ pReg c (rest rem) f) := by
  rw [pPts_eq]; unfold pReg; rw [rest_cons]; exact pointsTo_union (rest_disjoint h)

/-- The gathered blocks whole from the slots. -/
theorem gReg_whole (c : Dev nD) (f) : gReg (F := F) c (rest ks) f ⊣⊢ iprop(over ks (fun k => gPts c k.succ fullShare f) ∗ gPts c 0 fullShare f) := by
  have h := slots_split (F := F) (ℓ := (c : Thread nD τ).loc cc0_scratch0) (q := fullShare) (fun k : Fin 15 => el16 k.succ) rest rest_cons (fun k rem h => rest_disjoint h) f ks ks_nodup
  simp only [gPts_eq]
  rw [rest_nil] at h
  exact h
theorem gReg_join (c : Dev nD) : iprop(over ks (fun k => iprop(∃ f, gPts (F := F) c k.succ fullShare f)) ∗ ∃ f, gPts (F := F) c 0 fullShare f) ⊢ (∃ f, gReg c (rest ks) f : sProp 𝕄) := by
  have h := slots_join (F := F) (ℓ := (c : Thread nD τ).loc cc0_scratch0) (q := fullShare) (fun k : Fin 15 => el16 k.succ) rest rest_cons (fun k rem h => rest_disjoint h) ks ks_nodup
  simp only [gPts_eq]
  rw [rest_nil] at h
  exact h
theorem pReg_join (c : Dev nD) : iprop(over ks (fun k => iprop(∃ f, pPts (F := F) c k.succ f)) ∗ ∃ f, pReg (F := F) c (rest []) f) ⊢ (∃ f, pReg c (rest ks) f : sProp 𝕄) := by
  have h := slots_join (F := F) (ℓ := (c : Thread nD τ).loc cc0_scratch2) (q := fullShare) (fun k : Fin 15 => el16 k.succ) rest rest_cons (fun k rem h => rest_disjoint h) ks ks_nodup
  simp only [pPts_eq]
  exact h

/-- Slot 0 in the shares its copies read through, and a share left over. -/
theorem gPts_shares (c : Dev nD) (f) : gPts (F := F) c 0 fullShare f ⊣⊢ iprop(gPts c 0 (Transfers.shareDrop fullShare 15) f ∗ over ks (fun k => gPts c 0 (qk k) f)) := by
  rw [over_ks]; exact Transfers.pointsTo_toks fullShare 15

/-! ## The all-gather -/

/-- What copy `k` of the all-gather takes. -/
def agTake (c : Dev nD) (l : ℕ) (k : Fin 15) : sProp 𝕄 :=
  iprop(gPts c 0 (qk k) (I.G l c) ∗ gPerm c l k ∗ (∃ f, rPts c k f) ∗ reached ER (cell c (kRsR k)) l
    ∗ dutyTok ER (cell c (kAgS k)) l 0 ∗ reached ER (cell c (kAgS k)) l ∗ dutyTok ER (cell (up c k) (kAgR k)) l 0)

/-- Copy `k` of the all-gather to device `d`; -/
def agTo (d : Dev nD) (k : Fin 15) : Pg F PUnit :=
  Prog.lift (.enqueueDma (gS 0) (.remote (Dev.tc d) (gS k.succ) (.dma (agS k))) (.dma (agR k)) (gS_exact 0) (gS_exact k.succ) ⟨⟨rfl, Or.inl rfl⟩, trivial⟩)
/-- of the reduce-scatter. -/
def rsTo (d : Dev nD) (k : Fin 15) : Pg F PUnit :=
  Prog.lift (.enqueueDma (pS k.succ) (.remote (Dev.tc d) (rS k) (.dma (rsS k))) (.dma (rsR k)) (pS_exact k.succ) (rS_exact k) ⟨⟨rfl, Or.inl rfl⟩, trivial⟩)
theorem agSend_eq (c : Dev nD) (l : Fin 3) (k : Fin 15) : agSend (F := F) c l k = agTo (up c k) k := by
  rw [← agDev_eq l k c]; rfl
theorem rsSend_eq (c : Dev nD) (l : Fin 3) (k : Fin 15) : rsSend (F := F) c l k = rsTo (dn c k) k := by
  rw [← rsDev_eq l k c]; rfl

/-- One copy of the all-gather: the source's share and the slot filled go with it, and the sender's own receive slot. -/
theorem agSend_step (c : Dev nD) (l : Fin 3) (O : CellTallies nD τ sig ℕ) (k : Fin 15) (rem : List (Fin 15)) :
    iprop(recs I K ∗ agTake I c l k ∗ due c (oweG c l (k :: rem) + O))
      ⊢ wpc c (agSend c l k) (fun _ => iprop(cred (tallyAt (cell c (kAgS k)) l N) ∗ due c (oweG c l rem + O))) := by
  rw [agSend_eq]
  unfold agTake gPerm due
  iintro ⟨#HP, ⟨Hs, ⟨⟨%fd, Hd⟩, #Hr2⟩, Hf, #HrF, Ht1, #Hr1, Ht2⟩, ⟨%W, HO⟩⟩
  ihave #HI1 := recs_inv I K c (kAgS k) $$ HP
  ihave #HI2 := recs_inv I K (up c k) (kAgR k) $$ HP
  unfold gPts
  iapply (Rounds.wp_send_pointsTo_with 𝒱₀ ER (Rd I) (c : Thread nD τ) none (c' := (up c k : Thread nD τ)) (src := gS 0) (dst := gS k.succ)
    (sS := .dma (agS k)) (sem := .dma (agR k)) (κ₁ := K (c, kAgS k)) (κ₂ := K (up c k, kAgR k))
    (r₁ := l) (r₂ := l) (d₁ := 0) (d₂ := 0) (q := qk k) (fs := I.G l c) (fd := fd) (F := rPerm (up c k) l k)
    (mem_duties I c (0, k) l.isLt) (mem_duties I (up c k) (1, k) l.isLt)
    l l N rfl (amount_cell I c (kAgS k) l 0) (amount_cell I (up c k) (kAgR k) l 0) (oweG c l rem + O)
    (O₀ := oweG c l (k :: rem) + O) (by rw [oweG_cons]; exact add_right_comm _ _ _) (W := W)
    (Entails.of_eq (payload_cell I c (kAgS k) l 0).symm)
    (by
      refine BIBase.Entails.trans ?_ (Entails.of_eq (payload_cell I (up c k) (kAgR k) l 0).symm)
      refine sep_mono_left (Entails.of_eq ?_)
      unfold gPts
      exact pointsTo_congr fun i hi => agSend_lands (I.X l) c k fd i (by rw [← gS_set]; exact hi))) $$ [Hs Hd HO Hf Ht1 Ht2]
  · isplitr; · iexact HI1
    isplitr; · iexact HI2
    isplitl [Hs]; · iexact Hs
    isplitl [Hd Hf]
    · isplitl [Hd]; · iexact Hd
      unfold rPerm; rw [dn_up]
      isplitl [Hf]; · iexact Hf
      iexact HrF
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hc]; · iexact Hc
  iexists _; iexact HO

/-- The all-gather's copies sent: what each has for its source's return. -/
theorem agSend_all (c : Dev nD) (l : Fin 3) (O : CellTallies nD τ sig ℕ) :
    iprop(recs I K ∗ over ks (agTake I c l) ∗ due c (oweG c l ks + O))
      ⊢ wpc c (loop ks (agSend c l)) (fun _ => iprop(over ks (fun k => cred (tallyAt (cell c (kAgS k)) l N)) ∗ due c O)) := by
  have h := wp_loop c (agSend c l) (recs I K) (agTake I c l) (fun k => cred (tallyAt (cell c (kAgS k)) l N)) (fun rem => due c (oweG c l rem + O)) ks []
    (by decide) (fun k rem _ _ => agSend_step I K c l O k rem)
  rw [List.append_nil, oweG_nil, zero_add] at h
  exact h

/-- What a wait for a copy of round `l` takes. -/
def awaits (c : Dev nD) (l : ℕ) (p : Fin 4 × Fin 15) : sProp 𝕄 := iprop(cred (tallyAt (cell c (some p)) l N) ∗ atPos ER (cell c (some p)) l ∅ 0)
/-- What it gives. -/
def awaited (c : Dev nD) (l : ℕ) (p : Fin 4 × Fin 15) : sProp 𝕄 :=
  iprop(atPos ER (cell c (some p)) (l + 1) ∅ 0 ∗ reached ER (cell c (some p)) (l + 1) ∗ payOf I c l 0 (some p))

/-- The waits of one kind. -/
theorem waits_all (c : Dev nD) (l : Fin 3) (O : CellTallies nD τ sig ℕ) (a : Fin 4) (hO : ∀ k, Above (lvOf l (some (some (a, k)))) O) (f : Fin 15 → Pg F PUnit)
    (hf : ∀ k, ∃ (q : DmaSem sig) (s s' : Shape) (e e' : EltTy) (src : Memref sig .tc .vmem s' e') (dst : Memref sig .tc .vmem s e) (hs : src.view.WordExact) (hd : dst.view.WordExact),
      csem (some (a, k)) = .dma q ∧ dst.view.dmaCredit = N ∧ f k = Prog.lift (.waitDma2 q src dst hs hd)) :
    iprop(recs I K ∗ over ks (fun k => awaits c l (a, k)) ∗ due c O) ⊢ wpc c (loop ks f) (fun _ => iprop(over ks (fun k => awaited I c l (a, k)) ∗ due c O)) := by
  have h := wp_loop c f (recs I K) (fun k => awaits c l (a, k)) (fun k => awaited I c l (a, k)) (fun _ => due c O) ks [] (by decide) (fun k rem _ _ => by
    obtain ⟨q, s, s', e, e', src, dst, hs, hd, hq, hN, hfk⟩ := hf k
    rw [hfk]
    unfold awaits awaited
    iintro ⟨#HP, ⟨Hc, Hat⟩, HO⟩
    iapply (wp_wand_r _ _ _ (Q := fun _ => iprop(atPos ER (cell c (some (a, k))) (l + 1) ∅ 0 ∗ reached ER (cell c (some (a, k))) (l + 1) ∗ payOf I c l 0 (some (a, k)) ∗ due c O)))
    isplitl [Hc Hat HO]
    · iapply (wait_copy I K c (a, k) q hq src dst hs hd hN l l.isLt O (hO k))
      isplitr; · iexact HP
      isplitl [Hc]; · iexact Hc
      isplitl [Hat] <;> iassumption
    · iintro %_ ⟨H1, H2, H3, H4⟩
      isplitl [H1 H2 H3]
      · isplitl [H1]; · iexact H1
        isplitl [H2] <;> iassumption
      · iexact H4)
  exact h

/-- The waits for the all-gather's sources; -/
theorem agSent_all (c : Dev nD) (l : Fin 3) (O : CellTallies nD τ sig ℕ) (hO : Above 0 O) :
    iprop(recs I K ∗ over ks (fun k => awaits c l (0, k)) ∗ due c O) ⊢ wpc c (loop ks agSent) (fun _ => iprop(over ks (fun k => awaited I c l (0, k)) ∗ due c O)) :=
  waits_all I K c l O 0 (fun _ => hO) agSent fun k => ⟨_, _, _, _, _, gS k.succ, gS 0, gS_exact k.succ, gS_exact 0, rfl, rfl, rfl⟩
/-- for the blocks it brings; -/
theorem agGot_all (c : Dev nD) (l : Fin 3) (O : CellTallies nD τ sig ℕ) (hO : Above (2 + 2 * l) O) :
    iprop(recs I K ∗ over ks (fun k => awaits c l (1, k)) ∗ due c O) ⊢ wpc c (loop ks agGot) (fun _ => iprop(over ks (fun k => awaited I c l (1, k)) ∗ due c O)) :=
  waits_all I K c l O 1 (fun _ => hO) agGot fun k => ⟨_, _, _, _, _, gS k.succ, gS k.succ, gS_exact k.succ, gS_exact k.succ, rfl, rfl, rfl⟩
/-- for the reduce-scatter's sources. -/
theorem rsSent_all (c : Dev nD) (l : Fin 3) (O : CellTallies nD τ sig ℕ) (hO : Above 0 O) :
    iprop(recs I K ∗ over ks (fun k => awaits c l (2, k)) ∗ due c O) ⊢ wpc c (loop ks rsSent) (fun _ => iprop(over ks (fun k => awaited I c l (2, k)) ∗ due c O)) :=
  waits_all I K c l O 2 (fun _ => hO) rsSent fun k => ⟨_, _, _, _, _, rS k, pS k.succ, rS_exact k, pS_exact k.succ, rfl, rfl, rfl⟩

/-! ## The reduce-scatter -/

/-- What copy `k` of the reduce-scatter takes. -/
def rsTake (c : Dev nD) (l : ℕ) (k : Fin 15) : sProp 𝕄 :=
  iprop(rPerm c l k ∗ reached ER (cell c (kAgR k)) (l + 1)
    ∗ dutyTok ER (cell c (kRsS k)) l 0 ∗ reached ER (cell c (kRsS k)) l ∗ dutyTok ER (cell (dn c k) (kRsR k)) l 0)
/-- What the sender keeps: in the last layer the slot of its gathered blocks. -/
def gKeep (c : Dev nD) (l : ℕ) (k : Fin 15) : sProp 𝕄 := if l + 1 < 3 then iprop(emp) else iprop(∃ f, gPts c k.succ fullShare f)

/-- The slot of a gathered block is handed on or kept. -/
theorem gKeep_or (c : Dev nD) (l : ℕ) (k : Fin 15) : iprop((∃ f, gPts (F := F) c k.succ fullShare f) ∗ reached ER (cell c (kAgR k)) (l + 1)) ⊢ iprop(gKeep c l k ∗ gNext (dn c k) (l + 1) k) := by
  unfold gKeep gNext gPerm
  split
  · rw [up_dn]
    iintro H
    isplitr; · iempintro
    iexact H
  · iintro ⟨H, -⟩
    isplitl [H]; · iexact H
    iempintro

/-- What the reduce-scatter's copies carry from one to the next: the slots not sent yet, of the gathered blocks and of
    the partial products, of these those of group `g` computed. -/
def rsState (c : Dev nD) (l : Fin 3) (g : Fin 4) (O : CellTallies nD τ sig ℕ) (rem : List (Fin 15)) : sProp 𝕄 :=
  iprop(gReg c (rest rem) (I.G l c) ∗ (∃ f, ⌜∀ i : S16x64x1024.Idx, grp (i 0) = g → f i = I.P l c i⌝ ∗ pReg c (rest rem) f) ∗ due c (oweR c l rem + O))

theorem rsSend_step (c : Dev nD) (l : Fin 3) (g : Fin 4) (O : CellTallies nD τ sig ℕ) (k : Fin 15) (hk : grp k.succ = g) (rem : List (Fin 15)) (hn : k ∉ rem) :
    iprop(recs I K ∗ rsTake c l k ∗ rsState I c l g O (k :: rem))
      ⊢ wpc c (rsSend c l k) (fun _ => iprop((cred (tallyAt (cell c (kRsS k)) l N) ∗ gKeep c l k) ∗ rsState I c l g O rem)) := by
  rw [rsSend_eq]
  unfold rsTake rPerm rsState due
  iintro ⟨#HP, ⟨⟨⟨%fd, Hd⟩, #Hr2⟩, #HrF, Ht1, #Hr1, Ht2⟩, HG, ⟨%f, %hf, HPp⟩, ⟨%W, HO⟩⟩
  ihave #HI1 := recs_inv I K c (kRsS k) $$ HP
  ihave #HI2 := recs_inv I K (dn c k) (kRsR k) $$ HP
  ihave HG' := (gReg_cons c hn _).1 $$ HG
  icases HG' with ⟨HGk, HG⟩
  ihave HP' := (pReg_cons c hn _).1 $$ HPp
  icases HP' with ⟨Hs, HPp⟩
  ihave HK := (gKeep_or c l k) $$ [HGk]
  · isplitl [HGk]; · iexists _; iexact HGk
    iexact HrF
  icases HK with ⟨HK, HN⟩
  iapply (Rounds.wp_send_pointsTo_with 𝒱₀ ER (Rd I) (c : Thread nD τ) none (c' := (dn c k : Thread nD τ)) (src := pS k.succ) (dst := rS k)
    (sS := .dma (rsS k)) (sem := .dma (rsR k)) (κ₁ := K (c, kRsS k)) (κ₂ := K (dn c k, kRsR k))
    (r₁ := l) (r₂ := l) (d₁ := 0) (d₂ := 0) (q := fullShare) (fs := f) (fd := fd) (F := gNext (dn c k) (l + 1) k)
    (mem_duties I c (2, k) l.isLt) (mem_duties I (dn c k) (3, k) l.isLt)
    l l N rfl (amount_cell I c (kRsS k) l 0) (amount_cell I (dn c k) (kRsR k) l 0) (oweR c l rem + O)
    (O₀ := oweR c l (k :: rem) + O) (by rw [oweR_cons]; exact add_right_comm _ _ _) (W := W)
    ((exists_intro f).trans (Entails.of_eq (payload_cell I c (kRsS k) l 0).symm))
    (by
      refine BIBase.Entails.trans ?_ (Entails.of_eq (payload_cell I (dn c k) (kRsR k) l 0).symm)
      refine sep_mono_left (Entails.of_eq ?_)
      unfold rPts
      exact pointsTo_congr fun i hi => rsSend_lands (I.X l) (I.wi l) (I.wo l) c k fd f (fun j hj => hf j ((congrArg grp (mem_el16.mp hj)).trans hk)) i (by rw [← rS_set]; exact hi))) $$ [Hs Hd HO HN Ht1 Ht2]
  · isplitr; · iexact HI1
    isplitr; · iexact HI2
    isplitl [Hs]; · unfold pPts; iexact Hs
    isplitl [Hd HN]
    · isplitl [Hd]; · unfold rPts; iexact Hd
      iexact HN
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hc HK]
  · isplitl [Hc]; · iexact Hc
    iexact HK
  isplitl [HG]; · iexact HG
  isplitl [HPp]
  · iexists f
    isplitr; · ipureintro; exact hf
    iexact HPp
  iexists _; iexact HO

/-! ## Loads and stores -/

/-- A load leaves what it reads. -/
theorem wpc_load (c : Dev nD) {s : Shape} {e : EltTy} (m : Memref sig .tc .vmem s e) (r : LoadRect s) (hl : m.view.LoadsAt r) {S : Finset (Idx (m.view.loc (c : Thread nD τ)))}
    (hS : m.view.setOn r.set ⊆ S) (q : PosShare TreeShare) (f : Buf (Elt F) (m.view.loc (c : Thread nD τ))) :
    (m.view.loc (c : Thread nD τ) ↦[S]{q} f) ⊢ wpc c (Prog.lift (.load m r hl)) (fun v => iprop(⌜v = m.view.readAt (Elt F) r f⌝ ∗ m.view.loc (c : Thread nD τ) ↦[S]{q} f)) := by
  iintro H
  iapply (wp_load 𝒱₀ (c : Thread nD τ) none Set.univ (m := m) hS) $$ H; iintro H
  rw [wp_ret]; imodintro
  isplitr; · ipureintro; rfl
  iexact H
/-- The same for a load whose value is known. -/
theorem wpc_load_eq (c : Dev nD) {s : Shape} {e : EltTy} (m : Memref sig .tc .vmem s e) (r : LoadRect s) (hl : m.view.LoadsAt r) {S : Finset (Idx (m.view.loc (c : Thread nD τ)))}
    (hS : m.view.setOn r.set ⊆ S) (q : PosShare TreeShare) (f : Buf (Elt F) (m.view.loc (c : Thread nD τ))) {w : r.shape.Idx → Elt F e} (hw : m.view.readAt (Elt F) r f = w) :
    (m.view.loc (c : Thread nD τ) ↦[S]{q} f) ⊢ wpc c (Prog.lift (.load m r hl)) (fun v => iprop(⌜v = w⌝ ∗ m.view.loc (c : Thread nD τ) ↦[S]{q} f)) := by
  subst hw; exact wpc_load c m r hl hS q f
/-- A store writes. -/
theorem wpc_store (c : Dev nD) {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1) {S : Finset (Idx ((m.access r).loc (c : Thread nD τ)))}
    (hS : (m.access r).setOn Finset.univ ⊆ S) (f : Buf (Elt F) ((m.access r).loc (c : Thread nD τ))) :
    ((m.access r).loc (c : Thread nD τ) ↦[S]{fullShare} f)
      ⊢ wpc c (Prog.lift (.store m r w Finset.univ hx hm)) (fun _ => ((m.access r).loc (c : Thread nD τ) ↦[S]{fullShare} ((m.access r).write (Elt F) f w Finset.univ))) := by
  iintro H
  iapply (wp_store 𝒱₀ (c : Thread nD τ) none Set.univ (m := m) (r := r) (Mk := Finset.univ) hS) $$ H; iintro H
  rw [wp_ret]; imodintro
  iexact H

/-- The first and the second weight of layer `l` held. -/
def wiPts (c : Dev nD) : Fin 3 → Vec F S1024x2048 .bf16 → sProp 𝕄
  | 0, w => ((c : Thread nD τ).loc cc0_stg1_0) ↦{fullShare} w
  | 1, w => ((c : Thread nD τ).loc cc0_stg3_0) ↦{fullShare} w
  | 2, w => ((c : Thread nD τ).loc cc0_stg5_0) ↦{fullShare} w
@[inherit_doc wiPts] def woPts (c : Dev nD) : Fin 3 → Vec F S2048x1024 .bf16 → sProp 𝕄
  | 0, w => ((c : Thread nD τ).loc cc0_stg2_0) ↦{fullShare} w
  | 1, w => ((c : Thread nD τ).loc cc0_stg4_0) ↦{fullShare} w
  | 2, w => ((c : Thread nD τ).loc cc0_stg6_0) ↦{fullShare} w

theorem origin : (![0, 0] : Fin 2 → Nat) = fun _ => 0 := by funext a; revert a; decide

theorem wi_load (c : Dev nD) (l : Fin 3) (w : Vec F S1024x2048 .bf16) (hl) :
    wiPts c l w ⊢ wpc c (Prog.lift (.load (wiM l) (Rect.unit (s := S1024x2048) ![0, 0] S1024x2048.size inb_S1024x2048_S1024x2048_0_0).toLoadRect hl)) (fun v : Vec F S1024x2048 .bf16 => iprop(⌜v = w⌝ ∗ wiPts c l w)) := by
  match l with
  | 0 => exact wpc_load_eq c (wiM 0) _ hl (Finset.subset_univ _) fullShare w (Memref.readAt_unit_zero (Elt F) cc0_stg1_0 origin _ w)
  | 1 => exact wpc_load_eq c (wiM 1) _ hl (Finset.subset_univ _) fullShare w (Memref.readAt_unit_zero (Elt F) cc0_stg3_0 origin _ w)
  | 2 => exact wpc_load_eq c (wiM 2) _ hl (Finset.subset_univ _) fullShare w (Memref.readAt_unit_zero (Elt F) cc0_stg5_0 origin _ w)
theorem wo_load (c : Dev nD) (l : Fin 3) (w : Vec F S2048x1024 .bf16) (hl) :
    woPts c l w ⊢ wpc c (Prog.lift (.load (woM l) (Rect.unit (s := S2048x1024) ![0, 0] S2048x1024.size inb_S2048x1024_S2048x1024_0_0).toLoadRect hl)) (fun v : Vec F S2048x1024 .bf16 => iprop(⌜v = w⌝ ∗ woPts c l w)) := by
  match l with
  | 0 => exact wpc_load_eq c (woM 0) _ hl (Finset.subset_univ _) fullShare w (Memref.readAt_unit_zero (Elt F) cc0_stg2_0 origin _ w)
  | 1 => exact wpc_load_eq c (woM 1) _ hl (Finset.subset_univ _) fullShare w (Memref.readAt_unit_zero (Elt F) cc0_stg4_0 origin _ w)
  | 2 => exact wpc_load_eq c (woM 2) _ hl (Finset.subset_univ _) fullShare w (Memref.readAt_unit_zero (Elt F) cc0_stg6_0 origin _ w)

/-! ## The groups of products -/

/-- What one group of products hands to the next, `gs` the groups left: the gathered blocks and the partial products not
    sent yet, the partial products at f32 of the groups done, the layer's weights, and what is owed. -/
def gsState (c : Dev nD) (l : Fin 3) (O : CellTallies nD τ sig ℕ) (gs : List (Fin 4)) : sProp 𝕄 :=
  iprop(wiPts c l (I.wi l c) ∗ woPts c l (I.wo l c) ∗ gReg c (rest (gs.flatMap gks)) (I.G l c)
    ∗ (∃ f, ⌜∀ i : S16x64x1024.Idx, grp (i 0) ∉ gs → f i = I.A l c i⌝ ∗ aReg c f) ∗ (∃ f, pReg c (rest (gs.flatMap gks)) f) ∗ due c (oweR c l (gs.flatMap gks) + O))

/-- What one copy of the reduce-scatter gives. -/
abbrev rsGive (c : Dev nD) (l : ℕ) (k : Fin 15) : sProp 𝕄 := iprop(cred (tallyAt (cell c (kRsS k)) l N) ∗ gKeep c l k)

theorem gks_nodup (gs : List (Fin 4)) (h : gs.Nodup) : (gs.flatMap gks).Nodup := by
  rw [List.nodup_flatMap]
  have h1 : ∀ g, (gks g).Nodup := by decide
  have h2 : ∀ a b, a ≠ b → ∀ k ∈ gks a, k ∉ gks b := by decide
  exact ⟨fun g _ => h1 g, h.imp fun hab k hk hk' => h2 _ _ hab k hk hk'⟩
theorem gks_grp (g : Fin 4) : ∀ k ∈ gks g, grp k.succ = g := by revert g; decide
theorem grp_gks (k : Fin 16) : k = 0 ∨ ∃ j ∈ gks (grp k), k = j.succ := by revert k; decide

theorem r4_rest (g : Fin 4) (gs : List (Fin 4)) : (r4 g).set ⊆ rest ((g :: gs).flatMap gks) := fun i hi => by
  rw [mem_rest]
  have h := r4_set g i hi
  rcases grp_gks (i 0) with h0 | ⟨j, hj, e⟩
  · exact .inl h0
  · refine .inr ⟨j, ?_, e⟩
    rw [List.flatMap_cons, List.mem_append]
    exact .inl (h ▸ hj)

theorem group_step (c : Dev nD) (l : Fin 3) (O : CellTallies nD τ sig ℕ) (g : Fin 4) (gs : List (Fin 4)) (hn : (g :: gs).Nodup) :
    iprop(recs I K ∗ over (gks g) (rsTake c l) ∗ gsState I c l O (g :: gs))
      ⊢ wpc c (group c l g) (fun _ => iprop(over (gks g) (rsGive c l) ∗ gsState I c l O gs)) := by
  unfold gsState group
  iintro ⟨#HP, HT, Hwi, Hwo, HG, ⟨%fa, %ha, HA⟩, ⟨%fp, HPp⟩, HO⟩
  iapply (wpc_bind c _ _ (fun v : Vec F S4x64x1024 .bf16 => iprop(⌜v = gathered4 (I.X l) c g⌝ ∗ gReg c (rest ((g :: gs).flatMap gks)) (I.G l c))))
  isplitl [HG]
  · unfold gReg
    iapply (wpc_load c gM _ _ (by show (View.whole cc0_scratch0).setOn _ ⊆ _; rw [setOn_whole]; exact r4_rest g gs) fullShare (I.G l c)); iexact HG
  iintro %v ⟨%hv, HG⟩; subst hv
  iapply (wpc_bind c _ _ (fun v : Vec F S1024x2048 .bf16 => iprop(⌜v = I.wi l c⌝ ∗ wiPts c l (I.wi l c))))
  isplitl [Hwi]; · iapply (wi_load c l); iexact Hwi
  iintro %v ⟨%hv, Hwi⟩; subst hv
  iapply (wpc_bind c _ _ (fun v : Vec F S2048x1024 .bf16 => iprop(⌜v = I.wo l c⌝ ∗ woPts c l (I.wo l c))))
  isplitl [Hwo]; · iapply (wo_load c l); iexact Hwo
  iintro %v ⟨%hv, Hwo⟩; subst hv
  iapply (wpc_bind c _ _ (fun v : Vec F S4x64x1024 .f32 => iprop(⌜v = _⌝ ∗ aReg c fa)))
  isplitl [HA]
  · unfold aReg
    iapply (wpc_load c aM _ _ (Finset.subset_univ _) fullShare fa); iexact HA
  iintro %v ⟨-, HA⟩
  iapply (wpc_bind c _ _ (fun _ => aReg c ((aM.access (r4 g) : View sig .tc _ _ _).write (Elt F) fa (k0_pay3 (gathered4 (I.X l) c g) (I.wi l c) (I.wo l c)) Finset.univ)))
  isplitl [HA]
  · unfold aReg
    iapply (wpc_store c aM (r4 g) _ _ _ (Finset.subset_univ _) fa); iexact HA
  iintro %_ HA
  iapply (wpc_bind c _ _ (fun v : Vec F S4x64x1024 .bf16 => iprop(⌜v = _⌝ ∗ pReg c (rest ((g :: gs).flatMap gks)) fp)))
  isplitl [HPp]
  · unfold pReg
    iapply (wpc_load c pM _ _ (by show (View.whole cc0_scratch2).setOn _ ⊆ _; rw [setOn_whole]; exact r4_rest g gs) fullShare fp); iexact HPp
  iintro %v ⟨-, HPp⟩
  iapply (wpc_bind c _ _ (fun _ => pReg c (rest ((g :: gs).flatMap gks)) ((pM.access (r4 g) : View sig .tc _ _ _).write (Elt F) fp (k0_pay4 (gathered4 (I.X l) c g) (I.wi l c) (I.wo l c)) Finset.univ)))
  isplitl [HPp]
  · unfold pReg
    iapply (wpc_store c pM (r4 g) _ _ _ ((access_whole cc0_scratch2 (r4 g) _).trans (r4_rest g gs)) fp); iexact HPp
  iintro %_ HPp
  iapply (wp_wand_r _ _ _ (Q := fun _ => iprop(over (gks g) (rsGive c l) ∗ rsState I c l g O (gs.flatMap gks))))
  isplitl [HT HG HPp HO]
  · iapply (wp_loop c (rsSend c l) (recs I K) (rsTake c l) (rsGive c l) (rsState I c l g O) (gks g) (gs.flatMap gks) (gks_nodup _ hn)
      (fun k rem hk hr => rsSend_step I K c l g O k (gks_grp g k hk) rem (List.nodup_cons.mp hr).1))
    isplitr; · iexact HP
    isplitl [HT]; · iexact HT
    unfold rsState
    isplitl [HG]; · iexact HG
    isplitl [HPp]
    · iexists _
      isplitr
      swap; · iexact HPp
      ipureintro; intro i hi; exact partB_stored (I.X l) (I.wi l) (I.wo l) c g fp i hi
    iexact HO
  iintro %_ ⟨HB, HS⟩
  unfold rsState
  icases HS with ⟨HG, ⟨%f, -, HPp⟩, HO⟩
  isplitl [HB]; · iexact HB
  isplitl [Hwi]; · iexact Hwi
  isplitl [Hwo]; · iexact Hwo
  isplitl [HG]; · iexact HG
  isplitl [HA]
  · iexists _
    isplitr
    swap; · iexact HA
    ipureintro; intro i hi
    by_cases hg : grp (i 0) = g
    · exact part_stored (I.X l) (I.wi l) (I.wo l) c g fa i hg
    · rw [part_kept _ g fa i hg]; exact ha i (by rw [List.mem_cons, not_or]; exact ⟨hg, hi⟩)
  isplitl [HPp]; · iexists f; iexact HPp
  iexact HO

/-- The four groups. -/
theorem groups_all (c : Dev nD) (l : Fin 3) (O : CellTallies nD τ sig ℕ) :
    iprop(recs I K ∗ over ks (rsTake c l) ∗ gsState I c l O [0, 1, 2, 3])
      ⊢ wpc c (loop [0, 1, 2, 3] (group c l)) (fun _ => iprop(over ks (rsGive c l) ∗ gsState I c l O [])) := by
  have h := wp_loop c (group c l) (recs I K) (fun g => over (gks g) (rsTake c l)) (fun g => over (gks g) (rsGive c l)) (gsState I c l O) [0, 1, 2, 3] []
    (by decide) (fun g gs _ hn => group_step I K c l O g gs hn)
  have hk : ks = [0, 1, 2, 3].flatMap gks := by decide
  rw [hk]
  refine (sep_mono_right (sep_mono_left (over_flatMap [0, 1, 2, 3] gks (rsTake (F := F) c l)).1)).trans (BIBase.Entails.trans h ?_)
  exact wp_mono _ _ _ fun _ => sep_mono_left (over_flatMap [0, 1, 2, 3] gks (rsGive (F := F) c l)).2

/-! ## The blocks received -/

/-- The load of one received slot. -/
theorem r_load (c : Dev nD) (k : Fin 15) (f : Vec F S15x64x1024 .bf16) (hl) :
    rPts c k f ⊢ wpc c (Prog.lift (.load rM (r15 k).toLoadRect hl)) (fun v : Vec F S1x64x1024 .bf16 => iprop(⌜v = rM.view.readAt (Elt F) (r15 k).toLoadRect f⌝ ∗ rPts c k f)) := by
  rw [rPts_eq]
  exact wpc_load c rM _ hl (by show (View.whole cc0_scratch3).setOn _ ⊆ _; rw [setOn_whole]; exact fun i hi => mem_el15.mpr (r15_set k i hi)) fullShare f

/-- One block of the reduce-scatter: its arrival, and the running sum with it. -/
theorem rsAdd_step (c : Dev nD) (l : Fin 3) (O : CellTallies nD τ sig ℕ) (hO : Above (3 + 2 * l) O) (k : Fin 15) (y : FVec F S64x1024 .f32) :
    iprop(recs I K ∗ awaits c l (3, k) ∗ due c O)
      ⊢ wpc c (rsAdd k y) (fun z => iprop(⌜z = addIn y (recvdAt (I.X l) (I.wi l) (I.wo l) c k)⌝ ∗ awaited I c l (3, k) ∗ due c O)) := by
  unfold awaits awaited rsAdd
  iintro ⟨#HP, ⟨Hc, Hat⟩, HO⟩
  iapply (wpc_bind c _ _ (fun _ => iprop(atPos ER (cell c (some (3, k))) (l + 1) ∅ 0 ∗ reached ER (cell c (some (3, k))) (l + 1) ∗ payOf I c l 0 (some (3, k)) ∗ due c O)))
  isplitl [Hc Hat HO]
  · iapply (wait_copy I K c (3, k) (rsR k) rfl (rS k) (rS k) (rS_exact k) (rS_exact k) rfl l l.isLt O hO)
    isplitr; · iexact HP
    isplitl [Hc]; · iexact Hc
    isplitl [Hat] <;> iassumption
  iintro %_ ⟨Hat, Hr, Hpay, HO⟩
  ihave Hpay' := (show payOf I c l 0 (some (3, k)) ⊢ iprop(rPts c k (I.R l c) ∗ gNext c (l + 1) k) from .rfl) $$ Hpay
  icases Hpay' with ⟨HR, HN⟩
  iapply (wpc_bind c _ _ (fun v : Vec F S1x64x1024 .bf16 => iprop(⌜v = recvdAt (I.X l) (I.wi l) (I.wo l) c k⌝ ∗ rPts c k (I.R l c))))
  isplitl [HR]
  · iapply (r_load c k (I.R l c)); iexact HR
  iintro %v ⟨%hv, HR⟩; subst hv
  rw [show (pure (addIn y (recvdAt (I.X l) (I.wi l) (I.wo l) c k)) : Pg F _) = .ret _ from rfl, wpc, wp_ret]
  imodintro
  isplitr; · ipureintro; rfl
  isplitr [HO]
  · isplitl [Hat]; · iexact Hat
    isplitl [Hr]; · iexact Hr
    iapply (show iprop(rPts c k (I.R l c) ∗ gNext c (l + 1) k) ⊢ payOf I c l 0 (some (3, k)) from .rfl)
    isplitl [HR] <;> iassumption
  iexact HO

end Cert.MLP

end
-- ==== Proof.Layer.lean ====
/-
# One layer

The all-gather, the four groups of products with their copies, the sum: what a device holds between layers, and that a
layer leaves its sum and the same for the next one.
-/
module

public import proofs.«01_k».proof.Proof.Moves

@[expose] public section

set_option maxRecDepth 16384

noncomputable section

namespace Cert.MLP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Dev nD × Kind → ℕ)

/-- A cell's position: round `l` reached and nothing of it taken. -/
def posn (c : Dev nD) (l : ℕ) (p : Fin 4 × Fin 15) : sProp 𝕄 := iprop(atPos ER (cell c (some p)) l ∅ 0 ∗ reached ER (cell c (some p)) l)

/-- The slot copy `k` of layer `l`'s all-gather fills; past the last layer the device's own slot instead. -/
def gHold (c : Dev nD) (l : ℕ) (k : Fin 15) : sProp 𝕄 := if l < 3 then gPerm c l k else iprop(∃ f, gPts c k.succ fullShare f)

/-- What a device holds for copy `k` at the start of layer `l`; -/
def held (c : Dev nD) (l : ℕ) (k : Fin 15) : sProp 𝕄 :=
  iprop(gHold c l k ∗ (∃ f, rPts c k f) ∗ posn c l (0, k) ∗ posn c l (1, k) ∗ posn c l (2, k) ∗ posn c l (3, k))
/-- the tokens and credits of its four copies. -/
def fuel (c : Dev nD) (l : ℕ) (k : Fin 15) : sProp 𝕄 :=
  iprop(dutyTok ER (cell c (kAgS k)) l 0 ∗ dutyTok ER (cell (up c k) (kAgR k)) l 0 ∗ dutyTok ER (cell c (kRsS k)) l 0 ∗ dutyTok ER (cell (dn c k) (kRsR k)) l 0
    ∗ cred (tallyAt (cell c (kAgR k)) l N) ∗ cred (tallyAt (cell c (kRsR k)) l N))

/-- What a copy of the reduce-scatter has before the blocks are in. -/
def rsFuel (c : Dev nD) (l : ℕ) (k : Fin 15) : sProp 𝕄 :=
  iprop(reached ER (cell c (kRsS k)) l ∗ dutyTok ER (cell c (kRsS k)) l 0 ∗ dutyTok ER (cell (dn c k) (kRsR k)) l 0)

/-- What stays aside while the all-gather's copies are sent, -/
def mid₁ (c : Dev nD) (l : ℕ) (k : Fin 15) : sProp 𝕄 :=
  iprop(atPos ER (cell c (kAgS k)) l ∅ 0 ∗ awaits c l (1, k) ∗ awaits c l (3, k) ∗ atPos ER (cell c (kRsS k)) l ∅ 0 ∗ rsFuel c l k)
/-- read, -/
def mid₂ (c : Dev nD) (l : ℕ) (k : Fin 15) : sProp 𝕄 :=
  iprop(awaits c l (3, k) ∗ atPos ER (cell c (kRsS k)) l ∅ 0 ∗ rsFuel c l k)
/-- and while the products are computed. -/
def mid₃ (c : Dev nD) (l : ℕ) (k : Fin 15) : sProp 𝕄 :=
  iprop(awaits c l (3, k) ∗ atPos ER (cell c (kRsS k)) l ∅ 0 ∗ posn c (l + 1) (1, k))

theorem held_start (c : Dev nD) (l : Fin 3) (k : Fin 15) : iprop(gPts c 0 (qk k) (I.G l c) ∗ (held c l k ∗ fuel c l k)) ⊢ iprop(agTake I c l k ∗ mid₁ c l k) := by
  unfold held fuel agTake mid₁ gHold posn rsFuel awaits
  rw [if_pos l.isLt]
  iintro ⟨Hs, ⟨Hg, Hr, ⟨Ha0, #Hr0⟩, ⟨Ha1, #Hr1⟩, ⟨Ha2, #Hr2⟩, ⟨Ha3, #Hr3⟩⟩, Ht0, Ht1, Ht2, Ht3, Hc1, Hc3⟩
  isplitl [Hs Hg Hr Ht0 Ht1]
  · isplitl [Hs]; · iexact Hs
    isplitl [Hg]; · iexact Hg
    isplitl [Hr]; · iexact Hr
    isplitr; · iexact Hr3
    isplitl [Ht0]; · iexact Ht0
    isplitr; · iexact Hr0
    iexact Ht1
  isplitl [Ha0]; · iexact Ha0
  isplitl [Hc1 Ha1]
  · isplitl [Hc1]; · iexact Hc1
    iexact Ha1
  isplitl [Hc3 Ha3]
  · isplitl [Hc3]; · iexact Hc3
    iexact Ha3
  isplitl [Ha2]; · iexact Ha2
  isplitr; · iexact Hr2
  isplitl [Ht2]; · iexact Ht2
  iexact Ht3

theorem held_sent (c : Dev nD) (l : ℕ) (k : Fin 15) : iprop(cred (tallyAt (cell c (kAgS k)) l N) ∗ mid₁ (F := F) c l k) ⊢ iprop(awaits c l (0, k) ∗ (awaits c l (1, k) ∗ mid₂ c l k)) := by
  unfold mid₁ mid₂ awaits
  iintro ⟨Hc, Ha, H1, H⟩
  isplitl [Hc Ha]
  · isplitl [Hc]; · iexact Hc
    iexact Ha
  isplitl [H1]; · iexact H1
  iexact H

theorem held_got (c : Dev nD) (l : ℕ) (k : Fin 15) : iprop(awaited I c l (1, k) ∗ mid₂ c l k) ⊢ iprop(gPts c k.succ fullShare (I.G l c) ∗ (rsTake c l k ∗ mid₃ c l k)) := by
  unfold mid₂ mid₃ awaited rsTake rsFuel posn
  rw [show payOf I c l 0 (some (1, k)) = iprop(gPts c k.succ fullShare (I.G l c) ∗ rPerm c l k) from rfl]
  iintro ⟨⟨Ha1, #Hr1, Hg, Hr⟩, Hw, Ha2, #Hr2, Ht2, Ht3⟩
  isplitl [Hg]; · iexact Hg
  isplitl [Hr Ht2 Ht3]
  · isplitl [Hr]; · iexact Hr
    isplitr; · iexact Hr1
    isplitl [Ht2]; · iexact Ht2
    isplitr; · iexact Hr2
    iexact Ht3
  isplitl [Hw]; · iexact Hw
  isplitl [Ha2]; · iexact Ha2
  isplitl [Ha1]; · iexact Ha1
  iexact Hr1

theorem held_computed (c : Dev nD) (l : ℕ) (k : Fin 15) : iprop(rsGive (F := F) c l k ∗ mid₃ c l k) ⊢ iprop(awaits c l (3, k) ∗ (awaits c l (2, k) ∗ (gKeep c l k ∗ posn c (l + 1) (1, k)))) := by
  unfold mid₃ awaits
  iintro ⟨⟨Hc, Hg⟩, Hw, Ha2, Hp⟩
  isplitl [Hw]; · iexact Hw
  isplitl [Hc Ha2]
  · isplitl [Hc]; · iexact Hc
    iexact Ha2
  isplitl [Hg]; · iexact Hg
  iexact Hp

/-- A slot kept or permitted is what the next layer holds. -/
theorem gHold_of (c : Dev nD) (l : ℕ) (k : Fin 15) : iprop(gKeep (F := F) c l k ∗ gNext c (l + 1) k) ⊢ gHold c (l + 1) k := by
  unfold gKeep gNext gHold
  split
  · iintro ⟨-, H⟩; iexact H
  · iintro ⟨H, -⟩; iexact H

theorem held_end (c : Dev nD) (l : ℕ) (k : Fin 15) :
    iprop((posn c (l + 1) (0, k) ∗ (gKeep c l k ∗ posn c (l + 1) (1, k))) ∗ (awaited I c l (2, k) ∗ awaited I c l (3, k))) ⊢ iprop(held c (l + 1) k ∗ (∃ f, pPts c k.succ f)) := by
  unfold awaited held posn
  rw [show payOf I c l 0 (some (2, k)) = iprop(∃ f, pPts c k.succ f) from rfl,
    show payOf I c l 0 (some (3, k)) = iprop(rPts c k (I.R l c) ∗ gNext c (l + 1) k) from rfl]
  iintro ⟨⟨H0, Hg, H1⟩, ⟨Ha2, Hr2, Hp⟩, Ha3, Hr3, Hr, Hn⟩
  isplitr [Hp]
  · isplitl [Hg Hn]
    · iapply gHold_of; isplitl [Hg] <;> iassumption
    isplitl [Hr]; · iexists _; iexact Hr
    isplitl [H0]; · iexact H0
    isplitl [H1]; · iexact H1
    isplitl [Ha2 Hr2]
    · isplitl [Ha2] <;> iassumption
    isplitl [Ha3] <;> iassumption
  · iexact Hp

/-- The source of the all-gather's copies, whole again from what they read through. -/
theorem held_source (c : Dev nD) (l : ℕ) (k : Fin 15) : awaited I c l (0, k) ⊢ iprop(gPts c 0 (qk k) (I.G l c) ∗ posn c (l + 1) (0, k)) := by
  unfold awaited posn
  rw [show payOf I c l 0 (some (0, k)) = gPts c 0 (qk k) (I.G l c) from rfl]
  iintro ⟨Ha, Hr, Hs⟩
  isplitl [Hs]; · iexact Hs
  isplitl [Ha] <;> iassumption

theorem above_le {m n : ℕ} (h : m ≤ n) {O : CellTallies nD τ sig ℕ} (hO : Above n O) : Above m O := fun g u hg => ⟨(hO g u hg).1, lt_of_le_of_lt h (hO g u hg).2⟩

/-- The device's own partial product. -/
theorem a_load (c : Dev nD) (f : Vec F S16x64x1024 .f32) (hl) :
    aReg c f ⊢ wpc c (Prog.lift (.load aM (r16 0).toLoadRect hl)) (fun v : Vec F S1x64x1024 .f32 => iprop(⌜v = aM.view.readAt (Elt F) (r16 0).toLoadRect f⌝ ∗ aReg c f)) := by
  unfold aReg; exact wpc_load c aM _ hl (Finset.subset_univ _) fullShare f

/-- One layer: from what is held at its start, with the device's block in slot 0, to its sum and what is held at the
    start of the next one. -/
theorem layer_spec (c : Dev nD) (l : Fin 3) (O : CellTallies nD τ sig ℕ) (hO : Above (3 + 2 * l) O) :
    iprop(recs I K ∗ (over ks (held c l) ∗ over ks (fuel c l)) ∗ gPts c 0 fullShare (I.G l c) ∗ (∃ f, aReg c f) ∗ (∃ f, pReg c (rest ks) f)
        ∗ wiPts c l (I.wi l c) ∗ woPts c l (I.wo l c) ∗ due c (oweG c l ks + (oweR c l ks + O)))
      ⊢ wpc c (layer c l) (fun y => iprop(⌜y = I.Y l c⌝ ∗ over ks (held c (l + 1)) ∗ (∃ f, gPts c 0 fullShare f) ∗ (∃ f, aReg c f) ∗ (∃ f, pReg c (rest ks) f)
        ∗ wiPts c l (I.wi l c) ∗ woPts c l (I.wo l c) ∗ due c O)) := by
  have hR : Above (2 + 2 * l) (oweR c l ks + O) := above_add (above_oweR c l ks l.isLt (by omega)) (above_le (by omega) hO)
  unfold layer
  iintro ⟨#HP, HH, HG0, HA, HPp, Hwi, Hwo, HO⟩
  ihave Hsh := (gPts_shares c (I.G l c)).1 $$ HG0
  icases Hsh with ⟨Hdrop, Hsh⟩
  ihave HH1 := (over_sep ks (held (F := F) c l) (fuel c l)).2 $$ HH
  ihave HH2 := (over_re ks (held_start I c l)) $$ [Hsh HH1]
  · isplitl [Hsh] <;> iassumption
  icases HH2 with ⟨HT, HM⟩
  -- the all-gather's copies
  iapply (wpc_bind c _ _ (fun _ => iprop(over ks (fun k => cred (tallyAt (cell c (kAgS k)) l N)) ∗ due c (oweR c l ks + O))))
  isplitl [HT HO]
  · iapply (agSend_all I K c l (oweR c l ks + O))
    isplitr; · iexact HP
    isplitl [HT] <;> iassumption
  iintro %_ ⟨HC, HO⟩
  ihave HH3 := (over_re ks (held_sent (F := F) c l)) $$ [HC HM]
  · isplitl [HC] <;> iassumption
  icases HH3 with ⟨HW, HM⟩
  iapply (wpc_bind c _ _ (fun _ => iprop(over ks (fun k => awaited I c l (0, k)) ∗ due c (oweR c l ks + O))))
  isplitl [HW HO]
  · iapply (agSent_all I K c l (oweR c l ks + O) (above_le (Nat.zero_le _) hR))
    isplitr; · iexact HP
    isplitl [HW] <;> iassumption
  iintro %_ ⟨HS, HO⟩
  ihave HM' := (over_sep ks _ _).1 $$ HM
  icases HM' with ⟨HW, HM⟩
  iapply (wpc_bind c _ _ (fun _ => iprop(over ks (fun k => awaited I c l (1, k)) ∗ due c (oweR c l ks + O))))
  isplitl [HW HO]
  · iapply (agGot_all I K c l (oweR c l ks + O) hR)
    isplitr; · iexact HP
    isplitl [HW] <;> iassumption
  iintro %_ ⟨HW, HO⟩
  -- the gathered blocks whole
  ihave HS1 := (over_mono ks fun k _ => held_source I c l k) $$ HS
  ihave HS2 := (over_sep ks _ _).1 $$ HS1
  icases HS2 with ⟨HS, HP0⟩
  ihave HG0 := (gPts_shares c (I.G l c)).2 $$ [Hdrop HS]
  · isplitl [Hdrop] <;> iassumption
  ihave HH4 := (over_re ks (held_got I c l)) $$ [HW HM]
  · isplitl [HW] <;> iassumption
  icases HH4 with ⟨HGs, HM⟩
  ihave HG := (gReg_whole c (I.G l c)).2 $$ [HGs HG0]
  · isplitl [HGs] <;> iassumption
  ihave HM' := (over_sep ks _ _).1 $$ HM
  icases HM' with ⟨HT, HM⟩
  -- the products and their copies
  iapply (wpc_bind c _ _ (fun _ => iprop(over ks (rsGive c l) ∗ gsState I c l O [])))
  isplitl [HT HG HA HPp Hwi Hwo HO]
  · iapply (groups_all I K c l O)
    isplitr; · iexact HP
    isplitl [HT]; · iexact HT
    unfold gsState
    rw [show ([0, 1, 2, 3] : List (Fin 4)).flatMap gks = ks from by decide]
    isplitl [Hwi]; · iexact Hwi
    isplitl [Hwo]; · iexact Hwo
    isplitl [HG]; · iexact HG
    isplitl [HA]
    · icases HA with ⟨%f, HA⟩
      iexists f
      isplitr
      · ipureintro; intro i hi
        have : ∀ g : Fin 4, g ∈ ([0, 1, 2, 3] : List (Fin 4)) := by decide
        exact absurd (this _) hi
      · iexact HA
    isplitl [HPp]; · iexact HPp
    iexact HO
  iintro %_ ⟨HB, HS⟩
  unfold gsState
  icases HS with ⟨Hwi, Hwo, HG, ⟨%f, %hf, HA⟩, HPp, HO⟩
  have hf' : f = I.A l c := funext fun i => hf i List.not_mem_nil
  subst hf'
  ihave HH5 := (over_re ks (held_computed (F := F) c l)) $$ [HB HM]
  · isplitl [HB] <;> iassumption
  icases HH5 with ⟨HW3, HM⟩
  ihave HM' := (over_sep ks _ _).1 $$ HM
  icases HM' with ⟨HW2, HM⟩
  -- the sum
  iapply (wpc_bind c _ _ (fun v : Vec F S1x64x1024 .f32 => iprop(⌜v = aM.view.readAt (Elt F) (r16 0).toLoadRect (I.A l c)⌝ ∗ aReg c (I.A l c))))
  isplitl [HA]; · iapply (a_load c (I.A l c)); iexact HA
  iintro %v ⟨%hv, HA⟩; subst hv
  iapply (wpc_bind c _ _ (fun y => iprop(⌜y = I.Y l c⌝ ∗ over ks (fun k => awaited I c l (3, k)) ∗ due c O)))
  isplitl [HW3 HO]
  · iapply (wp_fold c rsAdd (fun y k => addIn y (recvdAt (I.X l) (I.wi l) (I.wo l) c k)) (recs I K) (fun k => awaits c l (3, k)) (fun k => awaited I c l (3, k)) (due c O) ks
      (fun k y _ => rsAdd_step I K c l O hO k y))
    isplitr; · iexact HP
    isplitl [HW3]; · iexact HW3
    rw [show ([] : List (Fin 4)).flatMap gks = [] from rfl, oweR_nil, zero_add]; iexact HO
  iintro %y ⟨%hy, HW3, HO⟩
  iapply (wpc_bind c _ _ (fun _ => iprop(over ks (fun k => awaited I c l (2, k)) ∗ due c O)))
  isplitl [HW2 HO]
  · iapply (rsSent_all I K c l O (above_le (Nat.zero_le _) hO))
    isplitr; · iexact HP
    isplitl [HW2] <;> iassumption
  iintro %_ ⟨HW2, HO⟩
  -- what the next layer starts from
  ihave HL := (over_sep ks (fun k => posn (F := F) c (l + 1) (0, k)) (fun k => iprop(gKeep c l k ∗ posn c (l + 1) (1, k)))).2 $$ [HP0 HM]
  · isplitl [HP0] <;> iassumption
  ihave HR := (over_sep ks (fun k => awaited I c l (2, k)) (fun k => awaited I c l (3, k))).2 $$ [HW2 HW3]
  · isplitl [HW2] <;> iassumption
  ihave HH6 := (over_re ks (held_end I c l)) $$ [HL HR]
  · isplitl [HL] <;> iassumption
  icases HH6 with ⟨HH, HPs⟩
  ihave HPp' := (pReg_join c) $$ [HPs HPp]
  · isplitl [HPs]; · iexact HPs
    iexact HPp
  rw [show (pure y : Pg F _) = .ret y from rfl, wpc, wp_ret]
  imodintro
  isplitr; · ipureintro; exact hy
  isplitl [HH]; · iexact HH
  isplitl [HG]
  · iexists (I.G l c)
    rw [gPts_eq, ← rest_nil]; unfold gReg; iexact HG
  isplitl [HA]; · iexists _; iexact HA
  isplitl [HPp']; · iexact HPp'
  isplitl [Hwi]; · iexact Hwi
  isplitl [Hwo]; · iexact Hwo
  iexact HO

end Cert.MLP

end
-- ==== Proof.Body.lean ====
/-
# The body

The entry handshake, and the three layers one after another.
-/
module

public import proofs.«01_k».proof.Proof.Layer

@[expose] public section

set_option maxRecDepth 16384

noncomputable section

namespace Cert.MLP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig ℕ (Elt F) ℕ UU ℕ

variable (I : Inputs F) (K : Dev nD × Kind → ℕ)

/-! ## The received blocks' buffer -/

open scoped Classical in
/-- The elements of the slots `rem`. -/
def slots15 (rem : List (Fin 15)) : Finset S15x64x1024.Idx := Finset.univ.filter fun i => ∃ k ∈ rem, i 0 = k

theorem mem_slots15 {rem : List (Fin 15)} {i : S15x64x1024.Idx} : i ∈ slots15 rem ↔ ∃ k ∈ rem, i 0 = k := by
  simp only [slots15, Finset.mem_filter, Finset.mem_univ, true_and]
theorem slots15_cons (k : Fin 15) (rem : List (Fin 15)) : slots15 (k :: rem) = el15 k ∪ slots15 rem := by
  ext i
  rw [Finset.mem_union, mem_slots15, mem_slots15, mem_el15]
  constructor
  · rintro ⟨k', hk', e⟩
    rcases List.mem_cons.mp hk' with rfl | h
    · exact .inl e
    · exact .inr ⟨k', h, e⟩
  · rintro (e | ⟨k', h, e⟩)
    · exact ⟨k, List.mem_cons_self .., e⟩
    · exact ⟨k', List.mem_cons_of_mem _ h, e⟩
theorem slots15_disjoint (k : Fin 15) (rem : List (Fin 15)) (h : k ∉ rem) : Disjoint (el15 k) (slots15 rem) := by
  rw [Finset.disjoint_left]
  intro i hi hr
  obtain ⟨k', hk', e⟩ := mem_slots15.mp hr
  exact h (((mem_el15.mp hi).symm.trans e) ▸ hk')
theorem slots15_ks : slots15 ks = Finset.univ := by
  ext i
  rw [mem_slots15]
  have h : ∀ a : Fin 15, ∃ k ∈ ks, a = k := by decide
  exact ⟨fun _ => Finset.mem_univ _, fun _ => h (i 0)⟩
theorem slots15_nil : slots15 [] = ∅ := by
  ext i; rw [mem_slots15]; simp only [List.not_mem_nil, false_and, exists_false, Finset.notMem_empty]

/-- The buffer of received blocks whole. -/
def rReg (c : Dev nD) : sProp 𝕄 := iprop(∃ f : Vec F S15x64x1024 .bf16, ((c : Thread nD τ).loc cc0_scratch3) ↦{fullShare} f)

/-- It is its fifteen slots. -/
theorem rReg_slots (c : Dev nD) : rReg (F := F) c ⊣⊢ over ks (fun k => iprop(∃ f, rPts c k f)) := by
  unfold rReg
  simp only [rPts_eq]
  rw [show (fun f : Vec F S15x64x1024 .bf16 => (((c : Thread nD τ).loc cc0_scratch3) ↦{fullShare} f : sProp 𝕄)) = fun f => (((c : Thread nD τ).loc cc0_scratch3) ↦[slots15 ks]{fullShare} f) from by rw [slots15_ks]; rfl]
  constructor
  · iintro ⟨%f, H⟩
    ihave H' := (slots_split (F := F) (ℓ := (c : Thread nD τ).loc cc0_scratch3) el15 slots15 slots15_cons slots15_disjoint f ks ks_nodup).1 $$ H
    icases H' with ⟨H, -⟩
    iapply (over_mono ks (fun k _ => exists_intro f)); iexact H
  · iintro H
    iapply (slots_join (F := F) (ℓ := (c : Thread nD τ).loc cc0_scratch3) el15 slots15 slots15_cons slots15_disjoint ks ks_nodup)
    isplitl [H]; · iexact H
    iexists (fun _ => default)
    rw [slots15_nil, pointsTo_empty]; iempintro

/-! ## The handshake -/

/-- A conjunction over the copies, in the other order. -/
theorem over_opp {M : Type} [URA M] (A : Fin 15 → sProp M) : over ks (fun k => A (opp k)) = over ks A := by
  rw [over_ks, over_ks]
  exact (bigSep_univ_equiv ⟨opp, opp, opp_opp, opp_opp⟩ A).symm

/-- What signal `k` takes: its token, and the device's slot that the copies of the device it reaches fill. -/
def barTake (c : Dev nD) (k : Fin 15) : sProp 𝕄 := iprop(dutyTok ER (cell (up c k) kBar) 0 k ∗ (∃ f, gPts c (opp k).succ fullShare f))

theorem bar_pay (c : Dev nD) (k : Fin 15) : (∃ f, gPts (F := F) c (opp k).succ fullShare f : sProp 𝕄) ⊢ (Rd I).payload ((up c k : Thread nD τ), .reg barS) 0 k := by
  refine BIBase.Entails.trans ?_ (Entails.of_eq (payload_cell I (up c k) kBar 0 k).symm)
  show _ ⊢ (∃ f, gPts (F := F) (dn (up c k) k) (opp k).succ fullShare f : sProp 𝕄)
  rw [dn_up]

/-- One signal. -/
theorem signal_step (c : Dev nD) (O : CellTallies nD τ sig ℕ) (k : Fin 15) (rem : List (Fin 15)) :
    iprop(recs I K ∗ barTake c k ∗ due c (O + oweB c (k :: rem)))
      ⊢ wpc c (semSignalWord (barDev k c) barS 1#32) (fun _ => iprop(emp ∗ due c (O + oweB c rem))) := by
  rw [barDev_eq]
  unfold barTake due
  iintro ⟨#HP, ⟨Ht, Hs⟩, ⟨%W, HO⟩⟩
  ihave #HI := recs_inv I K (up c k) kBar $$ HP
  ihave #Hr := recs_reached I K (up c k) kBar $$ HP
  iapply (Rounds.wp_signal 𝒱₀ ER (Rd I) (c : Thread nD τ) none (dst := (up c k : Thread nD τ)) (κ := K (up c k, kBar))
    (r := 0) (d := k) (mem_duties_bar I (up c k) k) ((amount_cell I (up c k) kBar 0 k).trans (by decide)) 0
    (O₀ := O + oweB c (k :: rem)) (O + oweB c rem) (by rw [oweB_cons, ← add_assoc]; rfl) (W := W)) $$ [HO Ht Hs]
  · isplitr; · iexact HI
    isplitl [HO]; · iexact HO
    isplitl [Ht]; · iexact Ht
    isplitl [Hs]
    · iapply (bar_pay I c k); iexact Hs
    iexact Hr
  iintro HO
  rw [wp_ret]; imodintro
  isplitr; · iempintro
  iexists _; iexact HO

/-- What the fifteen signals bring: the slots the device's copies fill. -/
theorem bar_got (c : Dev nD) : bigSep ((Rd I).duties ((c : Thread nD τ), .reg barS) 0 \ ∅) (fun d => (Rd I).payload ((c : Thread nD τ), .reg barS) 0 d)
    ⊢ over ks (fun k => iprop(∃ f, gPts (F := F) (up c k) k.succ fullShare f)) := by
  refine (Entails.of_eq (rest_bar I c)).trans ?_
  rw [← over_ks, ← over_opp]
  exact over_mono ks fun k _ => Entails.of_eq (by rw [opp_opp, ← up_eq_dn])
theorem perm_zero (c : Dev nD) (k : Fin 15) : iprop(recs I K ∗ (∃ f, gPts (F := F) (up c k) k.succ fullShare f)) ⊢ gPerm c 0 k := by
  unfold gPerm
  iintro ⟨#HP, H⟩
  isplitl [H]; · iexact H
  iapply (recs_reached I K (up c k) (kAgR k)); iexact HP

/-- The handshake: the device's own slots for those its copies fill. -/
theorem handshake_spec (c : Dev nD) (O : CellTallies nD τ sig ℕ) (hO : Above 1 O) :
    iprop(recs I K ∗ over ks (barTake c) ∗ cred (tallyAt (cell c kBar) 0 15) ∗ atPos ER (cell c kBar) 0 ∅ 0 ∗ due c (O + oweB c ks))
      ⊢ wpc c (handshake c) (fun _ => iprop(atPos ER (cell c kBar) 1 ∅ 0 ∗ over ks (gPerm c 0) ∗ due c O)) := by
  unfold handshake
  iintro ⟨#HP, HT, Hc, Hat, HO⟩
  iapply (wpc_bind c _ _ (fun _ => iprop(over ks (fun _ => (iprop(emp) : sProp 𝕄)) ∗ due c (O + oweB c []))))
  isplitl [HT HO]
  · iapply (wp_loop c (fun k => semSignalWord (barDev k c) barS 1#32) (recs I K) (barTake c) (fun _ => iprop(emp)) (fun rem => due c (O + oweB c rem)) ks [] (by decide)
      (fun k rem _ _ => signal_step I K c O k rem))
    isplitr; · iexact HP
    isplitl [HT]; · iexact HT
    iexact HO
  iintro %_ ⟨-, HO⟩
  unfold due
  icases HO with ⟨%W, HO⟩
  ihave #HI := recs_inv I K c kBar $$ HP
  ihave #HL := recs_lev I K $$ HP
  iapply (Rounds.wp_wait_rest_token 𝒱₀ ER (Rd I) (c : Thread nD τ) none (κ := K (c, kBar))
    (wpE_semWait_eq 𝒱₀ (c : Thread nD τ) none Set.univ) (Set.mem_univ _) 0 (O := O) (W := W) (R := 0) (m := 0) (T := ∅)
    ((expect_bar I c).trans (by decide)).symm) $$ [Hc HO Hat]
  · isplitr; · iexact HI
    isplitl [Hc]; · iexact Hc
    isplitl [HO]; · rw [oweB_nil, add_zero]; iexact HO
    isplitr; · iapply (mayWait c (.reg barS) 0 (by decide) 1 (by rw [show ((c : Thread nD τ), SemLoc.reg barS) = cell c kBar from rfl, lv_cell]; exact le_refl _) hO); iexact HL
    iexact Hat
  iintro ⟨HO, Hat, -, Hpay⟩
  ihave Hp := (bar_got I c) $$ Hpay
  rw [wp_ret]; imodintro
  isplitl [Hat]; · iexact Hat
  isplitl [Hp]
  · iapply (over_with (P := recs I K) (A := fun k => iprop(∃ f, gPts (F := F) (up c k) k.succ fullShare f)) ks (fun k _ => perm_zero I K c k))
    isplitr; · iexact HP
    iexact Hp
  iexists _; iexact HO

/-! ## The body -/

/-- The blocks of `x` and of the result held. -/
def xPts (c : Dev nD) (f : Vec F S64x1024 .bf16) : sProp 𝕄 := ((c : Thread nD τ).loc cc0_stg0_0) ↦{fullShare} f
@[inherit_doc xPts] def oPts (c : Dev nD) (f : Vec F S64x1024 .f32) : sProp 𝕄 := ((c : Thread nD τ).loc cc0_stg7_0) ↦{fullShare} f

theorem x_load (c : Dev nD) (f : Vec F S64x1024 .bf16) (hl) :
    xPts c f ⊢ wpc c (Prog.lift (.load xM (Rect.unit (s := S64x1024) ![0, 0] S64x1024.size inb_S64x1024_S64x1024_0_0).toLoadRect hl)) (fun v : Vec F S64x1024 .bf16 => iprop(⌜v = f⌝ ∗ xPts c f)) :=
  wpc_load_eq c xM _ hl (Finset.subset_univ _) fullShare f (Memref.readAt_unit_zero (Elt F) cc0_stg0_0 origin _ f)

/-- The result's block stored. -/
theorem o_store (c : Dev nD) (f w : Vec F S64x1024 .f32) (hx) (hm) :
    oPts c f ⊢ wpc c (Prog.lift (.store oM (Rect.unit (s := S64x1024) ![0, 0] S64x1024.size inb_S64x1024_S64x1024_0_0) w Finset.univ hx hm)) (fun _ => oPts c w) := by
  have h := wpc_store c oM _ w hx hm (Finset.subset_univ _) f
  have e : (oM.access (Rect.unit (s := S64x1024) ![0, 0] S64x1024.size inb_S64x1024_S64x1024_0_0) : View sig .tc _ _ _).write (Elt F) f w Finset.univ = w :=
    Memref.write_access_unit_zero_univ (Elt F) cc0_stg7_0 origin _ f w
  exact BIBase.Entails.trans h (wp_mono _ _ _ fun _ => Entails.of_eq (by unfold oPts; rw [e]))

/-- A block put in slot 0: the gathered blocks there. -/
theorem put_spec (c : Dev nD) (x : Dev nD → Vec F S64x1024 .bf16) (v : Vec F S1x64x1024 .bf16) (hv : ∀ (a : Fin 64) (b : Fin 1024), v (ix3 0 a b) = x c (ix2 a b)) :
    (∃ f, gPts c 0 fullShare f : sProp 𝕄) ⊢ wpc c (put v) (fun _ => gPts c 0 fullShare (gathered x c)) := by
  unfold put
  simp only [gPts_eq]
  iintro ⟨%f, H⟩
  iapply (wpc_bind c _ _ (fun w : Vec F S1x64x1024 .bf16 => iprop(⌜w = _⌝ ∗ ((c : Thread nD τ).loc cc0_scratch0) ↦[el16 0]{fullShare} f)))
  isplitl [H]
  · iapply (wpc_load c gM _ _ (by show (View.whole cc0_scratch0).setOn _ ⊆ _; rw [setOn_whole]; exact fun i hi => mem_el16.mpr (r16_set 0 i hi)) fullShare f); iexact H
  iintro %_ ⟨-, H⟩
  iapply (wp_wand_r _ _ _ (Q := fun _ => (((c : Thread nD τ).loc cc0_scratch0) ↦[el16 0]{fullShare} ((gM.access (r16 0) : View sig .tc _ _ _).write (Elt F) f v Finset.univ))))
  isplitl [H]
  · iapply (wpc_store c gM (r16 0) v _ _ (fun i hi => mem_el16.mpr (r16_set 0 i (access_whole cc0_scratch0 (r16 0) _ hi))) f); iexact H
  iintro %_ H
  iapply (Entails.of_eq (pointsTo_congr fun i hi => put_stored x c v hv f i hi)); iexact H

/-- What the body starts from, beside the buffers: the cells' positions and every copy's and signal's tokens and credits; -/
def ghost (c : Dev nD) : sProp 𝕄 :=
  iprop(over ks (fun k => iprop(posn c 0 (0, k) ∗ posn c 0 (1, k) ∗ posn c 0 (2, k) ∗ posn c 0 (3, k))) ∗ (over ks (fuel c 0) ∗ over ks (fuel c 1) ∗ over ks (fuel c 2))
    ∗ over ks (fun k => dutyTok ER (cell (up c k) kBar) 0 k) ∗ cred (tallyAt (cell c kBar) 0 15) ∗ atPos ER (cell c kBar) 0 ∅ 0)
/-- the positions it ends at. -/
def done (c : Dev nD) : sProp 𝕄 :=
  iprop(over ks (fun k => iprop(posn c 3 (0, k) ∗ posn c 3 (1, k) ∗ posn c 3 (2, k) ∗ posn c 3 (3, k))) ∗ atPos ER (cell c kBar) 1 ∅ 0)
/-- The scratch buffers. -/
def scr (c : Dev nD) : sProp 𝕄 := iprop((∃ f, gReg c (rest ks) f) ∗ (∃ f, aReg c f) ∗ (∃ f, pReg c (rest ks) f) ∗ rReg c)
/-- The weights. -/
def weights (c : Dev nD) : sProp 𝕄 := iprop((wiPts c 0 (I.wi 0 c) ∗ woPts c 0 (I.wo 0 c)) ∗ (wiPts c 1 (I.wi 1 c) ∗ woPts c 1 (I.wo 1 c)) ∗ (wiPts c 2 (I.wi 2 c) ∗ woPts c 2 (I.wo 2 c)))

theorem held_first (c : Dev nD) (k : Fin 15) : iprop(gPerm (F := F) c 0 k ∗ ((∃ f, rPts c k f) ∗ (posn c 0 (0, k) ∗ posn c 0 (1, k) ∗ posn c 0 (2, k) ∗ posn c 0 (3, k)))) ⊢ held c 0 k := by
  unfold held gHold
  rw [if_pos (by decide)]
theorem held_last (c : Dev nD) (k : Fin 15) : held (F := F) c 3 k ⊢ iprop((∃ f, gPts c k.succ fullShare f) ∗ ((∃ f, rPts c k f) ∗ (posn c 3 (0, k) ∗ posn c 3 (1, k) ∗ posn c 3 (2, k) ∗ posn c 3 (3, k)))) := by
  unfold held gHold
  rw [if_neg (by decide)]

/-- The gathered blocks' buffer in the slots the signals hand over and slot 0. -/
theorem g_start (c : Dev nD) : (∃ f, gReg (F := F) c (rest ks) f : sProp 𝕄) ⊢ iprop(over ks (fun k => iprop(∃ f, gPts c (opp k).succ fullShare f)) ∗ ∃ f, gPts c 0 fullShare f) := by
  rw [over_opp (fun k => iprop(∃ f, gPts (F := F) c k.succ fullShare f))]
  iintro ⟨%f, H⟩
  ihave H' := (gReg_whole c f).1 $$ H
  icases H' with ⟨H1, H2⟩
  isplitl [H1]
  · iapply (over_mono ks (fun k _ => exists_intro f)); iexact H1
  · iexists f; iexact H2

/-- The three layers' credits, one after another. -/
theorem owe₀_eq (c : Dev nD) : owe₀ c = (oweG c 0 ks + (oweR c 0 ks + oweL c 1 2)) + oweB c ks := rfl

/-- The first layer's blocks are the inputs, a later one's the sums before it rounded. -/
theorem block_zero (c : Dev nD) (a : Fin 64) (b : Fin 1024) : k0_pay1 (I.x c) (ix3 0 a b) = I.X 0 c (ix2 a b) := pay1_apply (I.x c) a b
@[inherit_doc block_zero] theorem block_succ (c : Dev nD) (l : ℕ) (a : Fin 64) (b : Fin 1024) : k0_pay22 (I.Y l c) (ix3 0 a b) = I.X (l + 1) c (ix2 a b) := pay22_apply (I.Y l c) a b

/-- One layer of the body: from what the layer before leaves. -/
def between (c : Dev nD) (l : ℕ) (O : CellTallies nD τ sig ℕ) : sProp 𝕄 :=
  iprop(over ks (held c l) ∗ (∃ f, gPts c 0 fullShare f) ∗ (∃ f, aReg c f) ∗ (∃ f, pReg c (rest ks) f) ∗ due c O)

theorem put_layer (c : Dev nD) (l : Fin 3) (O : CellTallies nD τ sig ℕ) (hO : Above (3 + 2 * l) O) (v : Vec F S1x64x1024 .bf16)
    (hv : ∀ (a : Fin 64) (b : Fin 1024), v (ix3 0 a b) = I.X l c (ix2 a b)) {α : Type} (k : FVec F S64x1024 .f32 → Pg F α) (Q : α → sProp 𝕄) :
    iprop(recs I K ∗ between c l (oweG c l ks + (oweR c l ks + O)) ∗ over ks (fuel c l) ∗ (wiPts c l (I.wi l c) ∗ woPts c l (I.wo l c))
        ∗ (between c (l + 1) O -∗ (wiPts c l (I.wi l c) ∗ woPts c l (I.wo l c)) -∗ wpc c (k (I.Y l c)) Q))
      ⊢ wpc c (put v >>= fun _ => layer c l >>= k) Q := by
  unfold between
  iintro ⟨#HP, ⟨HH, HG, HA, HPp, HO⟩, HF, ⟨Hwi, Hwo⟩, Hk⟩
  iapply (wpc_bind c _ _ (fun _ => gPts c 0 fullShare (I.G l c)))
  isplitl [HG]; · iapply (put_spec c (I.X l) v hv); iexact HG
  iintro %_ HG
  iapply (wpc_bind c _ _ (fun y => iprop(⌜y = I.Y l c⌝ ∗ over ks (held c (l + 1)) ∗ (∃ f, gPts c 0 fullShare f) ∗ (∃ f, aReg c f) ∗ (∃ f, pReg c (rest ks) f)
        ∗ wiPts c l (I.wi l c) ∗ woPts c l (I.wo l c) ∗ due c O)))
  isplitr [Hk]
  · iapply (layer_spec I K c l O hO)
    isplitr; · iexact HP
    isplitl [HH HF]; · isplitl [HH] <;> iassumption
    isplitl [HG]; · iexact HG
    isplitl [HA]; · iexact HA
    isplitl [HPp]; · iexact HPp
    isplitl [Hwi]; · iexact Hwi
    isplitl [Hwo]; · iexact Hwo
    iexact HO
  iintro %y ⟨%hy, HH, HG, HA, HPp, Hwi, Hwo, HO⟩
  subst hy
  iapply Hk $$ [HH HG HA HPp HO] [Hwi Hwo]
  · isplitl [HH]; · iexact HH
    isplitl [HG]; · iexact HG
    isplitl [HA]; · iexact HA
    isplitl [HPp]; · iexact HPp
    iexact HO
  · isplitl [Hwi] <;> iassumption

/-- The body: from the inputs, the scratch buffers and the ghost state, the result's block, everything else as it was and
    every cell at its last position. -/
theorem body_spec (c : Dev nD) :
    iprop(recs I K ∗ ghost c ∗ scr c ∗ xPts c (I.x c) ∗ weights I c ∗ (∃ f, oPts c f) ∗ due c (owe₀ c))
      ⊢ wpc c body (fun _ => iprop(done c ∗ scr c ∗ xPts c (I.x c) ∗ weights I c ∗ oPts c (I.Y 2 c) ∗ due c 0)) := by
  unfold body ghost scr weights
  iintro ⟨#HP, ⟨Hpos, ⟨HF0, HF1, HF2⟩, Htok, Hcb, Hab⟩, ⟨HG, HA, HPp, HR⟩, Hx, ⟨Hw0, Hw1, Hw2⟩, ⟨%fo, Ho⟩, HO⟩
  ihave HG' := (g_start c) $$ HG
  icases HG' with ⟨HGs, HG⟩
  iapply (wpc_bind c _ _ (fun d => iprop(⌜d = c⌝)))
  isplitr
  · rw [wpc, show (Prog.lift TpuEff.deviceId : Pg F (Dev nD)) = .op .deviceId .ret from rfl, wp_deviceId, wp_ret]
    imodintro; ipureintro; rfl
  iintro %d %hd; subst hd
  iapply (wpc_bind d _ _ (fun _ => iprop(atPos ER (cell d kBar) 1 ∅ 0 ∗ over ks (gPerm d 0) ∗ due d (oweL d 0 3))))
  isplitl [HGs Htok Hcb Hab HO]
  · iapply (handshake_spec I K d (oweL d 0 3) (above_oweL d 3 0 (by decide) (by decide)))
    isplitr; · iexact HP
    isplitl [HGs Htok]
    · iapply (over_sep ks (fun k => dutyTok ER (cell (up d k) kBar) 0 k) (fun k => iprop(∃ f, gPts (F := F) d (opp k).succ fullShare f))).2
      isplitl [Htok]; · iexact Htok
      iexact HGs
    isplitl [Hcb]; · iexact Hcb
    isplitl [Hab]; · iexact Hab
    iexact HO
  iintro %_ ⟨Hab, HGP, HO⟩
  iapply (wpc_bind d _ _ (fun v : Vec F S64x1024 .bf16 => iprop(⌜v = I.x d⌝ ∗ xPts d (I.x d))))
  isplitl [Hx]; · iapply (x_load d); iexact Hx
  iintro %v ⟨%hv, Hx⟩; subst hv
  ihave HRs := (rReg_slots d).1 $$ HR
  ihave HH1 := (over_sep ks (fun k => iprop(∃ f, rPts (F := F) d k f)) (fun k => iprop(posn d 0 (0, k) ∗ posn d 0 (1, k) ∗ posn d 0 (2, k) ∗ posn d 0 (3, k)))).2 $$ [HRs Hpos]
  · isplitl [HRs]; · iexact HRs
    iexact Hpos
  ihave HH2 := (over_sep ks (gPerm (F := F) d 0) _).2 $$ [HGP HH1]
  · isplitl [HGP]; · iexact HGP
    iexact HH1
  ihave HH := (over_mono ks fun k _ => held_first (F := F) d k) $$ HH2
  iapply (put_layer I K d 0 (oweL d 1 2) (above_oweL d 2 1 (by decide) (by decide)) (k0_pay1 (I.x d)) (block_zero I d))
  isplitr; · iexact HP
  isplitl [HH HG HA HPp HO]
  · unfold between
    isplitl [HH]; · iexact HH
    isplitl [HG]; · iexact HG
    isplitl [HA]; · iexact HA
    isplitl [HPp]; · iexact HPp
    iexact HO
  isplitl [HF0]; · iexact HF0
  isplitl [Hw0]; · iexact Hw0
  iintro HB Hw0
  iapply (put_layer I K d 1 (oweL d 2 1) (above_oweL d 1 2 (by decide) (by decide)) (k0_pay22 (I.Y 0 d)) (block_succ I d 0))
  isplitr; · iexact HP
  isplitl [HB]; · iexact HB
  isplitl [HF1]; · iexact HF1
  isplitl [Hw1]; · iexact Hw1
  iintro HB Hw1
  iapply (put_layer I K d 2 (oweL d 3 0) (above_oweL d 0 3 (by decide) (by decide)) (k0_pay22 (I.Y 1 d)) (block_succ I d 1))
  isplitr; · iexact HP
  isplitl [HB]; · iexact HB
  isplitl [HF2]; · iexact HF2
  isplitl [Hw2]; · iexact Hw2
  iintro HB Hw2
  unfold between
  icases HB with ⟨HH, HG, HA, HPp, HO⟩
  iapply (wpc_bind d _ _ (fun v : Vec F S64x1024 .f32 => iprop(⌜v = _⌝ ∗ oPts d fo)))
  isplitl [Ho]
  · unfold oPts
    iapply (wpc_load d oM _ _ (Finset.subset_univ _) fullShare fo); iexact Ho
  iintro %_ ⟨-, Ho⟩
  iapply (wp_wand_r _ _ _ (Q := fun _ => oPts d (I.Y 2 d)))
  isplitl [Ho]; · iapply (o_store d fo); iexact Ho
  iintro %_ Ho
  ihave HH1 := (show over ks (held (F := F) d ((2 : Fin 3) + 1)) ⊢ _ from over_mono ks fun k _ => held_last (F := F) d k) $$ HH
  ihave HH2 := (over_sep ks _ _).1 $$ HH1
  icases HH2 with ⟨HGs, HH2⟩
  ihave HH3 := (over_sep ks _ _).1 $$ HH2
  icases HH3 with ⟨HRs, Hpos⟩
  unfold done
  isplitl [Hpos Hab]
  · isplitl [Hpos]; · iexact Hpos
    iexact Hab
  isplitl [HGs HG HA HPp HRs]
  · isplitl [HGs HG]
    · iapply (gReg_join d)
      isplitl [HGs]; · iexact HGs
      iexact HG
    isplitl [HA]; · iexact HA
    isplitl [HPp]; · iexact HPp
    iapply (rReg_slots d).2; iexact HRs
  isplitl [Hx]; · iexact Hx
  isplitl [Hw0 Hw1 Hw2]
  · isplitl [Hw0]; · iexact Hw0
    isplitl [Hw1]; · iexact Hw1
    iexact Hw2
  isplitl [Ho]; · iexact Ho
  iexact HO

end Cert.MLP

end
-- ==== Proof.Deal.lean ====
/-
# What the launch deals

Every cell's state and every token are minted at the launch and dealt around the devices: each device takes its own cells'
positions and the tokens of the completions it pays for. At the end each device closes its cells.
-/
module

public import proofs.«01_k».proof.Proof.Body

@[expose] public section

set_option maxRecDepth 16384

noncomputable section

namespace Cert.MLP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Dev nD × Kind → ℕ)

/-! ## Conjunctions over the cells -/

section Sums
variable {M : Type} [URA M]

/-- Two conjunctions in the other order. -/
theorem bigSep_swap {α β : Type} [Fintype α] [Fintype β] (Φ : α → β → sProp M) :
    (bigSep Finset.univ fun a => bigSep Finset.univ fun b => Φ a b) = bigSep Finset.univ fun b => bigSep Finset.univ fun a => Φ a b := by
  rw [← bigSep_univ_prod (fun x : α × β => Φ x.1 x.2), ← bigSep_univ_prod (fun x : β × α => Φ x.2 x.1)]
  exact bigSep_univ_equiv (Equiv.prodComm β α) (fun x : α × β => Φ x.1 x.2)

/-- Over the kinds: the barrier's and the copies'. -/
theorem bigSep_kind (Φ : Kind → sProp M) : bigSep Finset.univ Φ = iprop(Φ kBar ∗ bigSep Finset.univ fun p => Φ (some p)) := by
  rw [bigSep_univ_equiv (Equiv.optionEquivSumPUnit.{0} (Fin 4 × Fin 15)).symm Φ, bigSep_univ_sum]
  have h : bigSep Finset.univ (fun b : PUnit.{1} => Φ ((Equiv.optionEquivSumPUnit.{0} (Fin 4 × Fin 15)).symm (.inr b))) = Φ kBar := by
    rw [show (Finset.univ : Finset PUnit.{1}) = {PUnit.unit} from rfl, bigSep_singleton]; rfl
  rw [h]
  exact BI.Entails.antisymm BI.sep_comm BI.sep_comm

/-- Over the four arrays. -/
theorem bigSep_arrays (Φ : Fin 4 → sProp M) : bigSep Finset.univ Φ = iprop(Φ 0 ∗ Φ 1 ∗ Φ 2 ∗ Φ 3) := bigSep_univ_eq_bigSepL [0, 1, 2, 3] (by decide) (by decide) Φ
/-- Over the three layers. -/
theorem bigSep_layers (Φ : Fin 3 → sProp M) : bigSep Finset.univ Φ = iprop(Φ 0 ∗ Φ 1 ∗ Φ 2) := bigSep_univ_eq_bigSepL [0, 1, 2] (by decide) (by decide) Φ

/-- Over the copies' semaphores, copy by copy. -/
theorem bigSep_copies (Φ : Fin 4 × Fin 15 → sProp M) : bigSep Finset.univ Φ = over ks fun k => iprop(Φ (0, k) ∗ Φ (1, k) ∗ Φ (2, k) ∗ Φ (3, k)) := by
  rw [bigSep_univ_prod, bigSep_swap, over_ks]
  exact bigSep_congr fun k _ => bigSep_arrays _

end Sums

/-! ## The tokens -/

/-- The tokens of a device's cells: of its barrier by signal, of the others by layer. -/
abbrev Tok : Type := Fin 15 ⊕ (Fin 3 × (Fin 4 × Fin 15))
/-- A token's cell, round and duty. -/
def tokOf : Dev nD × Tok → GSem nD τ sig × ℕ × Fin 15
  | (c, .inl k) => (cell c kBar, 0, k)
  | (c, .inr (l, p)) => (cell c (some p), l, 0)

theorem cell_injective : Function.Injective (fun x : Dev nD × Kind => cell x.1 x.2) := by
  rintro ⟨c, κ⟩ ⟨c', κ'⟩ h
  have h1 : c = c' := congrArg (fun g : GSem nD τ sig => g.1.1) h
  have h2 : κ = κ' := csem_injective (congrArg (fun g : GSem nD τ sig => g.2) h)
  rw [h1, h2]

theorem tokOf_injective : Function.Injective tokOf := by
  rintro ⟨c, t⟩ ⟨c', t'⟩ h
  have hc (x y : Dev nD × Kind) (e : cell x.1 x.2 = cell y.1 y.2) : x = y := cell_injective e
  rcases t with k | ⟨l, p⟩ <;> rcases t' with k' | ⟨l', p'⟩
  · have h1 := hc (c, kBar) (c', kBar) (congrArg (fun x : GSem nD τ sig × ℕ × Fin 15 => x.1) h)
    have h2 : k = k' := congrArg (fun x : GSem nD τ sig × ℕ × Fin 15 => x.2.2) h
    cases h1; rw [h2]
  · have h1 := hc (c, kBar) (c', some p') (congrArg (fun x : GSem nD τ sig × ℕ × Fin 15 => x.1) h)
    cases h1
  · have h1 := hc (c, some p) (c', kBar) (congrArg (fun x : GSem nD τ sig × ℕ × Fin 15 => x.1) h)
    cases h1
  · have h1 := hc (c, some p) (c', some p') (congrArg (fun x : GSem nD τ sig × ℕ × Fin 15 => x.1) h)
    have h2 : l = l' := Fin.ext (congrArg (fun x : GSem nD τ sig × ℕ × Fin 15 => x.2.1) h)
    cases h1; rw [h2]

/-- All cells; all tokens. -/
def cells : Finset (GSem nD τ sig) := Finset.univ.map ⟨_, cell_injective⟩
@[inherit_doc cells] def toks : Finset (GSem nD τ sig × ℕ × Fin 15) := Finset.univ.map ⟨_, tokOf_injective⟩

/-- Token `t` of device `c`'s cells. -/
def tokAt (c : Dev nD) (t : Tok) : sProp 𝕄 := dutyTok ER (tokOf (c, t)).1 (tokOf (c, t)).2.1 (tokOf (c, t)).2.2

/-- The device of whose cells a device holds token `t`: the one its signal or copy reaches; its own for its copies' sources. -/
def owner : Tok → Dev nD → Dev nD
  | .inl k, c => up c k
  | .inr (_, 0, _), c => c
  | .inr (_, 1, k), c => up c k
  | .inr (_, 2, _), c => c
  | .inr (_, 3, k), c => dn c k
/-- The device that holds it. -/
def holder : Tok → Dev nD → Dev nD
  | .inl k, c => dn c k
  | .inr (_, 0, _), c => c
  | .inr (_, 1, k), c => dn c k
  | .inr (_, 2, _), c => c
  | .inr (_, 3, k), c => up c k

/-- A token has one holder. -/
def ownerEquiv (t : Tok) : Dev nD ≃ Dev nD where
  toFun := owner t
  invFun := holder t
  left_inv c := by
    rcases t with k | ⟨l, a, k⟩
    · exact dn_up c k
    · fin_cases a
      · rfl
      · exact dn_up c k
      · rfl
      · exact up_dn c k
  right_inv c := by
    rcases t with k | ⟨l, a, k⟩
    · exact up_dn c k
    · fin_cases a
      · rfl
      · exact up_dn c k
      · rfl
      · exact dn_up c k

/-- The tokens a device holds. -/
def pay (c : Dev nD) : sProp 𝕄 := bigSep Finset.univ fun t => tokAt (owner t c) t

/-- The tokens minted are those the devices hold. -/
theorem toks_dealt : bigSep toks (fun x => (dutyTok ER x.1 x.2.1 x.2.2 : sProp 𝕄)) = bigSep Finset.univ fun c : Dev nD => pay c := by
  unfold toks pay
  rw [bigSep_map, bigSep_univ_prod, bigSep_swap, bigSep_swap fun (c : Dev nD) t => tokAt (F := F) (owner t c) t]
  exact bigSep_congr fun t _ => bigSep_univ_equiv (ownerEquiv t) (fun c => tokAt (F := F) c t)

/-- One layer's tokens of a copy. -/
def fuelToks (c : Dev nD) (l : ℕ) (k : Fin 15) : sProp 𝕄 :=
  iprop(dutyTok ER (cell c (kAgS k)) l 0 ∗ dutyTok ER (cell (up c k) (kAgR k)) l 0 ∗ dutyTok ER (cell c (kRsS k)) l 0 ∗ dutyTok ER (cell (dn c k) (kRsR k)) l 0)
/-- One layer's credits of a copy. -/
def fuelCreds (c : Dev nD) (l : ℕ) (k : Fin 15) : sProp 𝕄 :=
  iprop(cred (tallyAt (cell c (kAgR k)) l N) ∗ cred (tallyAt (cell c (kRsR k)) l N))

/-- What a device holds, by signal, layer and copy. -/
theorem pay_eq (c : Dev nD) : pay (F := F) c = iprop(over ks (fun k => dutyTok ER (cell (up c k) kBar) 0 k)
    ∗ over ks (fuelToks c 0) ∗ over ks (fuelToks c 1) ∗ over ks (fuelToks c 2)) := by
  unfold pay
  rw [bigSep_univ_sum, bigSep_univ_prod, bigSep_layers, bigSep_copies, bigSep_copies, bigSep_copies, ← over_ks]
  rfl

/-! ## The credits -/

/-- What is owed over a list of copies, each to a cell of the device the copy reaches, is at every device the credits of
    its own cells. -/
theorem launch_over (l n : ℕ) (κ : Fin 15 → Kind) (f g : Dev nD → Fin 15 → Dev nD) (hfg : ∀ c k, f (g c k) k = c) (hgf : ∀ c k, g (f c k) k = c) (xs : List (Fin 15)) (c : Dev nD) :
    (Pipeline.launchCred (fun d => (xs.map fun k => tallyAt (cell (f d k) (κ k)) l n).sum) c : sProp 𝕄) ⊢ over xs fun k => cred (tallyAt (cell c (κ k)) l n) := by
  induction xs with
  | nil => exact Entails.of_eq (Pipeline.launchCred_zero c)
  | cons k xs ih =>
    simp only [List.map_cons, List.sum_cons]
    rw [Pipeline.launchCred_add]
    exact BI.sep_mono (Pipeline.launchCred_tallyAt (csem (κ k)) (fun d => f d k) (fun d => g d k) (fun d => hfg d k) (fun d => hgf d k) l n c) ih

/-- Single credits of one cell together. -/
theorem creds_join (g : GSem nD τ sig) (xs : List (Fin 15)) : over xs (fun _ => (cred (tallyAt g 0 1) : sProp 𝕄)) ⊢ cred (tallyAt g 0 xs.length) := by
  induction xs with
  | nil => exact Entails.of_eq (by rw [List.length_nil, tallyAt_zero, cred_zero]; rfl)
  | cons k xs ih =>
    rw [List.length_cons, Nat.add_comm, ← tallyAt_add]
    exact BIBase.Entails.trans (sep_mono_right ih) (cred_add _ _).2

/-- A layer's credits. -/
theorem launch_layer (l : ℕ) (O : Dev nD → CellTallies nD τ sig ℕ) (c : Dev nD) :
    (Pipeline.launchCred (fun d => oweG d l ks + (oweR d l ks + O d)) c : sProp 𝕄) ⊢ iprop(over ks (fuelCreds c l) ∗ Pipeline.launchCred O c) := by
  rw [Pipeline.launchCred_add, Pipeline.launchCred_add]
  iintro ⟨HG, HR, HO⟩
  ihave HG' := (show (Pipeline.launchCred (fun d => oweG d l ks) c : sProp 𝕄) ⊢ _ from launch_over (F := F) l N kAgR up dn up_dn dn_up ks c) $$ HG
  ihave HR' := (show (Pipeline.launchCred (fun d => oweR d l ks) c : sProp 𝕄) ⊢ _ from launch_over (F := F) l N kRsR dn up dn_up up_dn ks c) $$ HR
  isplitr [HO]
  · iapply (over_sep ks (fun k => cred (tallyAt (cell c (kAgR k)) l N)) (fun k => cred (tallyAt (cell c (kRsR k)) l N))).2
    isplitl [HG']; · iexact HG'
    iexact HR'
  iexact HO

/-- A device's credits at launch. -/
def creds (c : Dev nD) : sProp 𝕄 :=
  iprop((over ks (fuelCreds c 0) ∗ over ks (fuelCreds c 1) ∗ over ks (fuelCreds c 2)) ∗ cred (tallyAt (cell c kBar) 0 15))

theorem launch_creds (c : Dev nD) : (Pipeline.launchCred owe₀ c : sProp 𝕄) ⊢ creds c := by
  have h0 : (owe₀ : Dev nD → CellTallies nD τ sig ℕ)
      = fun d => (oweG d 0 ks + (oweR d 0 ks + (oweG d 1 ks + (oweR d 1 ks + (oweG d 2 ks + (oweR d 2 ks + (fun _ => 0 : Dev nD → CellTallies nD τ sig ℕ) d)))))) + oweB d ks := rfl
  rw [h0, Pipeline.launchCred_add]
  unfold creds
  iintro ⟨H, HB⟩
  ihave H := (launch_layer (F := F) 0 (fun d => oweG d 1 ks + (oweR d 1 ks + (oweG d 2 ks + (oweR d 2 ks + (fun _ => 0 : Dev nD → CellTallies nD τ sig ℕ) d)))) c) $$ H
  icases H with ⟨H0, H⟩
  ihave H := (launch_layer (F := F) 1 (fun d => oweG d 2 ks + (oweR d 2 ks + (fun _ => 0 : Dev nD → CellTallies nD τ sig ℕ) d)) c) $$ H
  icases H with ⟨H1, H⟩
  ihave H := (launch_layer (F := F) 2 (fun _ => 0) c) $$ H
  icases H with ⟨H2, -⟩
  isplitr [HB]
  · isplitl [H0]; · iexact H0
    isplitl [H1]; · iexact H1
    iexact H2
  · ihave HB := (show (Pipeline.launchCred (fun d => oweB d ks) c : sProp 𝕄) ⊢ _ from launch_over (F := F) 0 1 (fun _ => kBar) up dn up_dn dn_up ks c) $$ HB
    iapply (creds_join (cell c kBar) ks); iexact HB

/-! ## From the launch to the body -/

/-- The positions of a device's cells. -/
def posns (c : Dev nD) : sProp 𝕄 := bigSep Finset.univ fun κ : Kind => atPos ER (cell c κ) 0 ∅ 0

/-- The body's ghost state from what the launch deals. -/
theorem fuel_of (c : Dev nD) (l : ℕ) : iprop(over ks (fuelToks (F := F) c l) ∗ over ks (fuelCreds c l)) ⊢ over ks (fuel c l) := by
  refine BIBase.Entails.trans (over_sep ks _ _).2 (over_mono ks fun k _ => ?_)
  unfold fuelToks fuelCreds fuel
  iintro ⟨⟨H1, H2, H3, H4⟩, H5, H6⟩
  isplitl [H1]; · iexact H1
  isplitl [H2]; · iexact H2
  isplitl [H3]; · iexact H3
  isplitl [H4]; · iexact H4
  isplitl [H5] <;> iassumption

@[inherit_doc fuel_of] theorem posn_of (c : Dev nD) (k : Fin 15) :
    iprop(recs I K ∗ (atPos ER (cell c (some (0, k))) 0 ∅ 0 ∗ atPos ER (cell c (some (1, k))) 0 ∅ 0 ∗ atPos ER (cell c (some (2, k))) 0 ∅ 0 ∗ atPos ER (cell c (some (3, k))) 0 ∅ 0))
      ⊢ iprop(posn (F := F) c 0 (0, k) ∗ posn c 0 (1, k) ∗ posn c 0 (2, k) ∗ posn c 0 (3, k)) := by
  unfold posn
  iintro ⟨#HP, H0, H1, H2, H3⟩
  ihave #R0 := recs_reached I K c (some (0, k)) $$ HP
  ihave #R1 := recs_reached I K c (some (1, k)) $$ HP
  ihave #R2 := recs_reached I K c (some (2, k)) $$ HP
  ihave #R3 := recs_reached I K c (some (3, k)) $$ HP
  isplitl [H0]; · isplitl [H0]; · iexact H0
                  iexact R0
  isplitl [H1]; · isplitl [H1]; · iexact H1
                  iexact R1
  isplitl [H2]; · isplitl [H2]; · iexact H2
                  iexact R2
  isplitl [H3]; · iexact H3
  iexact R3

@[inherit_doc fuel_of] theorem ghost_of (c : Dev nD) : iprop(recs I K ∗ (posns c ∗ pay c) ∗ creds c) ⊢ ghost c := by
  unfold posns creds ghost
  rw [bigSep_kind, bigSep_copies, pay_eq]
  iintro ⟨#HP, ⟨⟨Hb, Hp⟩, Ht, T0, T1, T2⟩, ⟨C0, C1, C2⟩, Hcb⟩
  isplitl [Hp]
  · iapply (over_with (P := recs I K) (A := fun k => iprop(atPos ER (cell c (some (0, k))) 0 ∅ 0 ∗ atPos ER (cell c (some (1, k))) 0 ∅ 0 ∗ atPos ER (cell c (some (2, k))) 0 ∅ 0 ∗ atPos ER (cell c (some (3, k))) 0 ∅ 0)) ks (fun k _ => posn_of I K c k))
    isplitr; · iexact HP
    iexact Hp
  isplitl [T0 T1 T2 C0 C1 C2]
  · isplitl [T0 C0]; · iapply (fuel_of c 0); isplitl [T0] <;> iassumption
    isplitl [T1 C1]; · iapply (fuel_of c 1); isplitl [T1] <;> iassumption
    iapply (fuel_of c 2); isplitl [T2] <;> iassumption
  isplitl [Ht]; · iexact Ht
  isplitl [Hcb]; · iexact Hcb
  iexact Hb

/-! ## The cells closed -/

/-- A cell past its last round closes at counter zero. -/
theorem close_copy (c : Dev nD) (p : Fin 4 × Fin 15) : iprop(recs I K ∗ posn c 3 p) ⊢ |={Set.univ}=> (semVal (cell c (some p)) 0 : sProp 𝕄) := by
  unfold posn
  iintro ⟨#HP, Ha, -⟩
  ihave #HI := recs_inv I K c (some p) $$ HP
  iapply (Rounds.cell_close ER (Rd I) (Set.mem_univ (K (c, some p))) (fun h => h) (R := 3) (duties_done I c p))
  isplitr; · iexact HI
  iexact Ha
@[inherit_doc close_copy] theorem close_bar (c : Dev nD) : iprop(recs I K ∗ atPos ER (cell c kBar) 1 ∅ 0) ⊢ |={Set.univ}=> (semVal (cell c kBar) 0 : sProp 𝕄) := by
  iintro ⟨#HP, Ha⟩
  ihave #HI := recs_inv I K c kBar $$ HP
  iapply (Rounds.cell_close ER (Rd I) (Set.mem_univ (K (c, kBar))) (fun h => h) (R := 1) (duties_done_bar I c))
  isplitr; · iexact HI
  iexact Ha

/-- Every semaphore of a device at zero. -/
def zeros (c : Dev nD) : sProp 𝕄 := bigSep Finset.univ fun κ : Kind => semVal (cell c κ) 0

/-- `Φ i` under a persistent `R` at each `i`. -/
theorem bigSep_with {M : Type} [URA M] {J : Type} [DecidableEq J] {S : Finset J} {R : sProp M} [BI.Persistent R] {Φ Ψ : J → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The body's last positions close every cell. -/
theorem close_all (c : Dev nD) : iprop(recs I K ∗ done c) ⊢ |={Set.univ}=> (zeros c : sProp 𝕄) := by
  unfold done zeros
  rw [bigSep_kind, ← bigSep_copies (fun p => posn (F := F) c 3 p)]
  iintro ⟨#HP, Hp, Hb⟩
  imod (close_bar I K c) $$ [Hb] with Hb
  · isplitr; · iexact HP
    iexact Hb
  imod (BIBase.Entails.trans (bigSep_with (R := recs I K) (S := Finset.univ) (Φ := fun p => posn (F := F) c 3 p) fun p _ => close_copy I K c p) (bigSep_fupd _ _)) $$ [Hp] with Hp
  · isplitr; · iexact HP
    iexact Hp
  imodintro
  isplitl [Hb]; · iexact Hb
  iexact Hp

/-! ## The launch's own step: every cell's invariant -/

/-- What is minted for device `c`. -/
def minted (c : Dev nD) : sProp 𝕄 :=
  iprop((bigSep Finset.univ fun κ : Kind => roundState ER (Rd I) (cell c κ) 0)
    ∗ ((bigSep Finset.univ fun κ : Kind => reached ER (cell c κ) 0) ∗ posns c) ∗ pay c)

/-- All cells and tokens, minted. -/
theorem mint : BI.own (ER (initOf cells toks)) ⊢ (|==> bigSep Finset.univ (minted I) : sProp 𝕄) := by
  have hX (Φ : GSem nD τ sig → sProp 𝕄) : bigSep cells Φ = bigSep Finset.univ fun c : Dev nD => bigSep Finset.univ fun κ : Kind => Φ (cell c κ) := by
    unfold cells; rw [bigSep_map, bigSep_univ_prod]; rfl
  iintro HX
  imod (Rounds.fund ER (Rd I) cells toks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq toks_dealt) $$ Htok
  unfold minted posns; simp only [bigSep_sep']
  isplitl [Hst']; · iexact Hst'
  isplitl [Hat' Hr']
  · isplitl [Hr'] <;> iassumption
  iexact Htok'

/-- The invariants and what every cell has reached. -/
def known : sProp 𝕄 :=
  iprop((bigSep Finset.univ fun ck : Dev nD × Kind => cellInv ER (Rd I) (K ck) (cell ck.1 ck.2)) ∗ (bigSep Finset.univ fun ck : Dev nD × Kind => reached ER (cell ck.1 ck.2) 0))
instance known_persistent : BI.Persistent (known I K) := by unfold known; infer_instance

theorem recs_of : iprop(known I K ∗ levAts L lv) ⊢ recs I K := by
  unfold known recs
  iintro ⟨⟨#H1, #H2⟩, #H3⟩
  isplitr; · iexact H1
  isplitr; · iexact H2
  iexact H3

/-- What device `c` holds after it. -/
def dealt (c : Dev nD) : sProp 𝕄 := iprop(∃ K, known I K ∗ (posns c ∗ pay c))

theorem dealt_of (c : Dev nD) : iprop(known I K ∗ (posns c ∗ pay c)) ⊢ dealt I c := by
  unfold dealt
  iintro H
  iexists K; iexact H

/-- One device's invariants allocated. -/
theorem alloc (c : Dev nD) : iprop(zeros c ∗ minted I c)
    ⊢ |={Set.univ}=> iprop((bigSep Finset.univ fun κ : Kind => iprop(∃ n : ℕ, cellInv ER (Rd I) n (cell c κ)))
        ∗ ((bigSep Finset.univ fun κ : Kind => reached ER (cell c κ) 0) ∗ posns c) ∗ pay c) := by
  unfold minted zeros
  iintro ⟨Hv, Hst, Hat, Htok⟩
  imod (show iprop((bigSep Finset.univ fun κ : Kind => semVal (cell c κ) 0) ∗ bigSep Finset.univ fun κ : Kind => roundState ER (Rd I) (cell c κ) 0)
      ⊢ (|={Set.univ}=> bigSep Finset.univ fun κ : Kind => iprop(∃ n : ℕ, cellInv ER (Rd I) n (cell c κ)) : sProp 𝕄) from by
        rw [← bigSep_sep']
        exact (bigSep_mono fun κ _ => (Rounds.body_intro ER (Rd I) (cell c κ)).trans inv_alloc).trans (bigSep_fupd _ _)) $$ [Hv Hst] with Hinv
  · isplitl [Hv] <;> iassumption
  imodintro
  isplitl [Hinv]; · iexact Hinv
  isplitl [Hat]; · iexact Hat
  iexact Htok

/-- All devices' invariants known to every device. -/
theorem share_known : (bigSep Finset.univ fun c : Dev nD => iprop((bigSep Finset.univ fun κ : Kind => iprop(∃ n : ℕ, cellInv ER (Rd I) n (cell c κ)))
        ∗ ((bigSep Finset.univ fun κ : Kind => reached ER (cell c κ) 0) ∗ posns c) ∗ pay c) : sProp 𝕄)
      ⊢ bigSep Finset.univ (dealt I) := by
  rw [bigSep_sep', bigSep_sep', bigSep_sep', ← bigSep_univ_prod (fun ck : Dev nD × Kind => iprop(∃ n : ℕ, cellInv ER (Rd I) n (cell ck.1 ck.2))),
    ← bigSep_univ_prod (fun ck : Dev nD × Kind => (reached ER (cell ck.1 ck.2) 0 : sProp 𝕄))]
  iintro ⟨HI, ⟨#HR, Hat⟩, Htok⟩
  ihave HK := (BI.bigSep_exists_pi Finset.univ (fun (ck : Dev nD × Kind) (n : ℕ) => (cellInv ER (Rd I) n (cell ck.1 ck.2) : sProp 𝕄))) $$ HI
  icases HK with ⟨%K, #HI⟩
  iapply (bigSep_with (R := known I K) (Φ := fun c => iprop(posns (F := F) c ∗ pay c)) fun c _ => dealt_of I K c)
  isplitr
  · unfold known; isplitl; · iexact HI
    iexact HR
  · iapply (Entails.of_eq (bigSep_sep' Finset.univ (fun c : Dev nD => posns (F := F) c) pay).symm)
    isplitl [Hat]; · iexact Hat
    iexact Htok

end Cert.MLP

end
-- ==== Proof.Launch.lean ====
/-
# The launch

The pipeline's proof data around the body, and the run of the whole program on the sixteen devices.
-/
module

public import proofs.«01_k».proof.Proof.Deal
public import proofs.«01_k».proof.Proof.Gen.KernelIdeal.Points
public import Idealize.ShloMosaic.Lib.Pipeline.CollectiveSegs

@[expose] public section

set_option maxRecDepth 16384

noncomputable section

namespace Cert.MLP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The inputs in the memory at launch: what the pipeline's windows fetch. -/
def inputs : Inputs F where
  x := fun c => (win0_0.blk (0 : Fin 1)).view.read (Elt F) ((s₀ m ρ).mem ((c : Thread nD τ).loc main_arg0))
  wi := fun l c => match l with
    | 0 => (win0_1.blk (0 : Fin 1)).view.read (Elt F) ((s₀ m ρ).mem ((c : Thread nD τ).loc main_arg1))
    | 1 => (win0_3.blk (0 : Fin 1)).view.read (Elt F) ((s₀ m ρ).mem ((c : Thread nD τ).loc main_arg2))
    | _ => (win0_5.blk (0 : Fin 1)).view.read (Elt F) ((s₀ m ρ).mem ((c : Thread nD τ).loc main_arg3))
  wo := fun l c => match l with
    | 0 => (win0_2.blk (0 : Fin 1)).view.read (Elt F) ((s₀ m ρ).mem ((c : Thread nD τ).loc main_arg4))
    | 1 => (win0_4.blk (0 : Fin 1)).view.read (Elt F) ((s₀ m ρ).mem ((c : Thread nD τ).loc main_arg5))
    | _ => (win0_6.blk (0 : Fin 1)).view.read (Elt F) ((s₀ m ρ).mem ((c : Thread nD τ).loc main_arg6))

/-! ## The pipeline's proof data -/

/-- What the body starts from, beside the windows: the ghost state dealt and the scratch buffers; -/
def Φ₀ (c : Dev nD) : sProp 𝕄 := iprop((dealt (inputs m ρ) c ∗ creds c ∗ levAts L lv) ∗ scr c)
/-- what it ends with: every counter at zero. -/
def Φ₁ (c : Dev nD) : sProp 𝕄 := iprop(zeros c ∗ scr c)

/-- The proof data: the input windows keep their blocks, the result's window takes the sum of the last layer. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inputs m ρ).x c
    | ⟨1, _⟩ => (inputs m ρ).wi 0 c
    | ⟨2, _⟩ => (inputs m ρ).wo 0 c
    | ⟨3, _⟩ => (inputs m ρ).wi 1 c
    | ⟨4, _⟩ => (inputs m ρ).wo 1 c
    | ⟨5, _⟩ => (inputs m ρ).wi 2 c
    | ⟨6, _⟩ => (inputs m ρ).wo 2 c
    | ⟨7, _⟩ => (inputs m ρ).Y 2 c
  Φ t := match t with
    | ⟨0, _⟩ => Φ₀ m ρ c
    | ⟨_ + 1, _⟩ => Φ₁ c
  q _ := fullShare
  owed t := match t with
    | ⟨0, _⟩ => owe₀ c
    | ⟨_ + 1, _⟩ => 0

/-- A whole buffer at known contents, as the pipeline hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

theorem stg_intro (c : Dev nD) (b : Ref sig .tc) (X : b.ty.Contents (Elt F)) (P : sProp 𝕄) (hP : P = (((c : Thread nD τ).loc b) ↦{fullShare} X : sProp 𝕄)) : P ⊢ stg c b X := by
  rw [hP]
  iintro H
  iexists X
  isplitr; · ipureintro; rfl
  iexact H
/-- A fetched buffer holds what was fetched. -/
theorem stg_elim {D : Type} (c : Dev nD) (b : Ref sig .tc) (X : b.ty.Contents (Elt F)) (P : sProp 𝕄) (hP : P = (((c : Thread nD τ).loc b) ↦{fullShare} X : sProp 𝕄))
    (g : D → b.ty.Contents (Elt F)) (h : ∀ d, g d = X) : (∃ d, stg c b (g d) : sProp 𝕄) ⊢ P := by
  rw [hP]
  iintro ⟨%d, %f, %hf, H⟩
  rw [h d] at hf
  subst hf
  iexact H

/-- An input window's buffer before the body. -/
theorem before_in (c : Dev nD) (w : Fin cfg0.W) (hf : (cfg0.win w).fetch t0_0 = true) (d) : (dats m ρ 0 c).before w t0_0 d = (dats m ρ 0 c).fetched w t0_0 d := by
  exact (dats m ρ 0 c).before_fetched w t0_0 hf d

/-! ## The body's obligation -/

/-- Before the body; -/
def bodyPre (c : Dev nD) : sProp 𝕄 :=
  iprop(Φ₀ m ρ c ∗ (dats m ρ 0 c).owesAt 0 (t0_0 : Fin cfg0.N).castSucc
    ∗ (∃ d, stg c cc0_stg0_0 ((dats m ρ 0 c).before (0 : Fin 8) t0_0 d)) ∗ (∃ d, stg c cc0_stg1_0 ((dats m ρ 0 c).before (1 : Fin 8) t0_0 d))
    ∗ (∃ d, stg c cc0_stg2_0 ((dats m ρ 0 c).before (2 : Fin 8) t0_0 d)) ∗ (∃ d, stg c cc0_stg3_0 ((dats m ρ 0 c).before (3 : Fin 8) t0_0 d))
    ∗ (∃ d, stg c cc0_stg4_0 ((dats m ρ 0 c).before (4 : Fin 8) t0_0 d)) ∗ (∃ d, stg c cc0_stg5_0 ((dats m ρ 0 c).before (5 : Fin 8) t0_0 d))
    ∗ (∃ d, stg c cc0_stg6_0 ((dats m ρ 0 c).before (6 : Fin 8) t0_0 d)) ∗ (∃ d, stg c cc0_stg7_0 ((dats m ρ 0 c).before (7 : Fin 8) t0_0 d)))
/-- after it. -/
def bodyPost (c : Dev nD) : sProp 𝕄 :=
  iprop(Φ₁ c ∗ (dats m ρ 0 c).owesAt 0 (t0_0 : Fin cfg0.N).succ
    ∗ stg c cc0_stg0_0 ((inputs m ρ).x c) ∗ stg c cc0_stg1_0 ((inputs m ρ).wi 0 c) ∗ stg c cc0_stg2_0 ((inputs m ρ).wo 0 c)
    ∗ stg c cc0_stg3_0 ((inputs m ρ).wi 1 c) ∗ stg c cc0_stg4_0 ((inputs m ρ).wo 1 c)
    ∗ stg c cc0_stg5_0 ((inputs m ρ).wi 2 c) ∗ stg c cc0_stg6_0 ((inputs m ρ).wo 2 c) ∗ stg c cc0_stg7_0 ((inputs m ρ).Y 2 c))

theorem due_start (c : Dev nD) : (dats m ρ 0 c).owesAt 0 (t0_0 : Fin cfg0.N).castSucc ⊢ due c (owe₀ c) := by
  unfold due Dat.owesAt Pipeline.owesWithin
  rw [show (dats m ρ 0 c).owed (t0_0 : Fin cfg0.N).castSucc = owe₀ c from rfl]
  iintro ⟨%W, %hW, HO⟩
  iexists W; iexact HO
theorem due_end (c : Dev nD) : due c 0 ⊢ (dats m ρ 0 c).owesAt 0 (t0_0 : Fin cfg0.N).succ := by
  unfold due Dat.owesAt Pipeline.owesWithin
  rw [show (dats m ρ 0 c).owed (t0_0 : Fin cfg0.N).succ = 0 from rfl]
  iintro ⟨%W, HO⟩
  iexists W
  isplitr; · ipureintro; exact fun _ _ => Or.inl trivial
  iexact HO

/-- The body between them. -/
theorem sound_body (c : Dev nD) : bodyPre m ρ c ⊢ wpc c printed (fun _ => bodyPost m ρ c) := by
  rw [body_eq]
  unfold bodyPre Φ₀ dealt
  iintro ⟨⟨⟨⟨%K, #HK, HD⟩, HC, #HL⟩, Hscr⟩, HO, H0, H1, H2, H3, H4, H5, H6, ⟨%d7, %f7, -, H7⟩⟩
  ihave #HP := (recs_of (inputs m ρ) K) $$ []
  · isplitr; · iexact HK
    iexact HL
  ihave H0 := (stg_elim c cc0_stg0_0 ((inputs m ρ).x c) (xPts c ((inputs m ρ).x c)) rfl _ (fun d => (before_in m ρ c (0 : Fin 8) (fetch0_0 _) d).trans rfl)) $$ H0
  ihave H1 := (stg_elim c cc0_stg1_0 ((inputs m ρ).wi 0 c) (wiPts c 0 ((inputs m ρ).wi 0 c)) rfl _ (fun d => (before_in m ρ c (1 : Fin 8) (fetch0_1 _) d).trans rfl)) $$ H1
  ihave H2 := (stg_elim c cc0_stg2_0 ((inputs m ρ).wo 0 c) (woPts c 0 ((inputs m ρ).wo 0 c)) rfl _ (fun d => (before_in m ρ c (2 : Fin 8) (fetch0_2 _) d).trans rfl)) $$ H2
  ihave H3 := (stg_elim c cc0_stg3_0 ((inputs m ρ).wi 1 c) (wiPts c 1 ((inputs m ρ).wi 1 c)) rfl _ (fun d => (before_in m ρ c (3 : Fin 8) (fetch0_3 _) d).trans rfl)) $$ H3
  ihave H4 := (stg_elim c cc0_stg4_0 ((inputs m ρ).wo 1 c) (woPts c 1 ((inputs m ρ).wo 1 c)) rfl _ (fun d => (before_in m ρ c (4 : Fin 8) (fetch0_4 _) d).trans rfl)) $$ H4
  ihave H5 := (stg_elim c cc0_stg5_0 ((inputs m ρ).wi 2 c) (wiPts c 2 ((inputs m ρ).wi 2 c)) rfl _ (fun d => (before_in m ρ c (5 : Fin 8) (fetch0_5 _) d).trans rfl)) $$ H5
  ihave H6 := (stg_elim c cc0_stg6_0 ((inputs m ρ).wo 2 c) (woPts c 2 ((inputs m ρ).wo 2 c)) rfl _ (fun d => (before_in m ρ c (6 : Fin 8) (fetch0_6 _) d).trans rfl)) $$ H6
  ihave HG := (ghost_of (inputs m ρ) K c) $$ [HD HC]
  · isplitr; · iexact HP
    isplitl [HD] <;> iassumption
  ihave HO := (due_start m ρ c) $$ HO
  iapply (wp_fupd _ _ _ body (fun _ => bodyPost m ρ c))
  iapply (wp_wand_r _ _ _ (Q := fun _ => iprop(done c ∗ scr c ∗ xPts c ((inputs m ρ).x c) ∗ weights (inputs m ρ) c ∗ oPts c ((inputs m ρ).Y 2 c) ∗ due c 0)))
  isplitl
  · iapply (body_spec (inputs m ρ) K c)
    isplitr; · iexact HP
    isplitl [HG]; · iexact HG
    isplitl [Hscr]; · iexact Hscr
    isplitl [H0]; · iexact H0
    isplitl [H1 H2 H3 H4 H5 H6]
    · unfold weights
      isplitl [H1 H2]
      · isplitl [H1]; · iexact H1
        iexact H2
      isplitl [H3 H4]
      · isplitl [H3]; · iexact H3
        iexact H4
      isplitl [H5]; · iexact H5
      iexact H6
    isplitl [H7]
    · iexists f7; iapply (Entails.of_eq (show (((c : Thread nD τ).loc cc0_stg7_0) ↦{fullShare} f7 : sProp 𝕄) = oPts c f7 from rfl)); iexact H7
    iexact HO
  iintro %_ ⟨Hd, Hscr, Hx, Hw, Ho, HO⟩
  imod (close_all (inputs m ρ) K c) $$ [Hd] with Hz
  · isplitr; · iexact HP
    iexact Hd
  imodintro
  unfold bodyPost Φ₁ weights
  icases Hw with ⟨⟨H1, H2⟩, ⟨H3, H4⟩, H5, H6⟩
  isplitl [Hz Hscr]
  · isplitl [Hz] <;> iassumption
  isplitl [HO]; · iapply (due_end m ρ c); iexact HO
  isplitl [Hx]; · iapply (stg_intro c cc0_stg0_0 ((inputs m ρ).x c) (xPts c ((inputs m ρ).x c)) rfl); iexact Hx
  isplitl [H1]; · iapply (stg_intro c cc0_stg1_0 ((inputs m ρ).wi 0 c) (wiPts c 0 ((inputs m ρ).wi 0 c)) rfl); iexact H1
  isplitl [H2]; · iapply (stg_intro c cc0_stg2_0 ((inputs m ρ).wo 0 c) (woPts c 0 ((inputs m ρ).wo 0 c)) rfl); iexact H2
  isplitl [H3]; · iapply (stg_intro c cc0_stg3_0 ((inputs m ρ).wi 1 c) (wiPts c 1 ((inputs m ρ).wi 1 c)) rfl); iexact H3
  isplitl [H4]; · iapply (stg_intro c cc0_stg4_0 ((inputs m ρ).wo 1 c) (woPts c 1 ((inputs m ρ).wo 1 c)) rfl); iexact H4
  isplitl [H5]; · iapply (stg_intro c cc0_stg5_0 ((inputs m ρ).wi 2 c) (wiPts c 2 ((inputs m ρ).wi 2 c)) rfl); iexact H5
  isplitl [H6]; · iapply (stg_intro c cc0_stg6_0 ((inputs m ρ).wo 2 c) (woPts c 2 ((inputs m ρ).wo 2 c)) rfl); iexact H6
  iapply (stg_intro c cc0_stg7_0 ((inputs m ρ).Y 2 c) (oPts c ((inputs m ρ).Y 2 c)) rfl); iexact Ho

set_option maxRecDepth 200000 in
/-- The pipeline's obligation on the body. -/
theorem body_obligation (c : Dev nD) : BodyObligation (dats (F := F) m ρ 0 c) (defs₀ (F := F)) 𝒱₀ 0 Set.univ := fun t => by
  rw [fin_N0 t]
  have h : ∀ Φ : Fin cfg0.W → sProp 𝕄, bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0
  rw [h, h]
  simp only [owns_whole_eq]
  exact sound_body m ρ c

/-! ## The launch -/

/-- The kernel's own semaphores. -/
abbrev osem : Fin 4 × Fin 15 → SemLoc sig := fun p => csem (some p)

theorem ownSemFacts : Pipeline.OwnSemFacts cfg0.spec osem where
  isScoped := by decide
  inj := fun p p' h => Option.some.inj (csem_injective h)
  disj := by decide

theorem share_eq (c : Dev nD) (w : Fin cfg0.W) : (dats m ρ 0 c).share w = fullShare := by unfold Dat.share; split <;> rfl

/-- The launch's ghost state: the pipeline's, and the kernel's. -/
def u₀ : UU := (initOf (Pipeline.cells cfgs cellOf_inj) (Pipeline.launchToks cfgs cellOf_inj), initOf cells toks)

/-- The barrier's semaphore is the only one that is not the kernel's own. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl
theorem zeros_eq (c : Dev nD) : zeros (F := F) c = iprop(unscopedSems0 c ∗ Pipeline.ownSems0 osem c) := by
  unfold zeros Pipeline.ownSems0
  rw [bigSep_kind, unscopedSems0_eq]

/-- The launch's step over all devices. -/
theorem glob : (bigSep Finset.univ fun c => iprop(Pipeline.ownSems0 (Ix := ℕ) (Name := ℕ) (U := UU) (Lvl := ℕ) (Val := Elt F) (τ := τ) osem c ∗ unscopedSems0 c ∗ minted (inputs m ρ) c) : sProp 𝕄)
    ⊢ |={Set.univ}=> bigSep Finset.univ (dealt (inputs m ρ)) := by
  refine BIBase.Entails.trans (BIBase.Entails.trans (bigSep_mono fun c _ => BIBase.Entails.trans ?_ (alloc (inputs m ρ) c)) (bigSep_fupd _ _)) (BI.fupd_mono (share_known (inputs m ρ)))
  rw [zeros_eq]
  iintro ⟨H1, H2, H3⟩
  isplitl [H1 H2]
  · isplitl [H2] <;> iassumption
  iexact H3

/-- What a device starts from. -/
def start (c : Dev nD) : sProp 𝕄 := iprop(dealt (inputs m ρ) c ∗ creds c ∗ levAts L lv)

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ dealt (inputs m ρ) c)
      ⊢ |={Set.univ}=> iprop(start m ρ c ∗ emp) := by
  iintro ⟨-, Hlev, Hcr, -, HG⟩
  ihave Hc := (launch_creds (F := F) c) $$ Hcr
  imodintro
  unfold start
  isplitl
  · isplitl [HG]; · iexact HG
    isplitl [Hc]; · iexact Hc
    iexact Hlev
  · iempintro

/-- The scratch buffers of the launch are the body's. -/
theorem scr_eq (c : Dev nD) : scr (F := F) c = Pipeline.scopedRest cfg0.spec c := by
  rw [scopedRest0_eq]
  unfold scr rReg gReg pReg aReg
  rw [rest_ks]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scr_eq]
  unfold Φ₀ start
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scr_eq]
  unfold Φ₁
  rw [zeros_eq]
  iintro ⟨⟨H1, H2⟩, H3⟩
  isplitl [H1]; · iexact H1
  isplitl [H2]; · iexact H2
  iexact H3

/-- The pipeline's own waits lie below everything owed. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) 0 (by
      have h : ∀ (w : Fin 8) (s : Fin ((cfg0.win w).nbuf)), lvOf 0 (kindOf (.dma ((cfg0.win w).sem s))) ≤ 0 := by decide
      exact h w s) (by
      rcases t with ⟨_ | _, ht⟩
      · exact above_add (above_oweL c 3 0 (by decide) (by decide)) (above_oweB c ks (by decide))
      · exact above_zero 0)

/-! ## The run -/

/-- A window's array after the run. -/
def finalA (c : Dev nD) (w : Fin cfg0.W) : Buf (Elt F) ((cfg0.win w).arr.view.loc (c : Thread nD τ)) := (dats m ρ 0 c).arrAt w cfg0.N

/-- Every window's array at its final contents on every device. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with zero counters, every weakly fair execution of the program on the sixteen devices terminates, and
    every final state has each device's arrays at the computed contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := minted (inputs m ρ)) (G' := dealt (inputs m ρ)) (u₀ := u₀)
    (hu₀ := by
      unfold u₀
      iintro Hu
      ihave H := (ownU_pair _ _) $$ Hu
      icases H with ⟨HP, HX⟩
      imod (mint (inputs m ρ)) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

end Cert.MLP

end
-- ==== Proof.Frames.lean ====
/-
# The frames

Each program's run, read at its arguments: the kernel's as printed, the same at the extended reals, and the reference's.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.MLP

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- In a final state of the run, every device's seven arguments hold what they held. -/
theorem args_kept {r : PUnit × MemSt nD τ sig (Elt F)} (h : Final m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c (0 : Fin 8)).trans (finalA_in m ρ c (0 : Fin 8) rfl),
    (h c (1 : Fin 8)).trans (finalA_in m ρ c (1 : Fin 8) rfl),
    (h c (3 : Fin 8)).trans (finalA_in m ρ c (3 : Fin 8) rfl),
    (h c (5 : Fin 8)).trans (finalA_in m ρ c (5 : Fin 8) rfl),
    (h c (2 : Fin 8)).trans (finalA_in m ρ c (2 : Fin 8) rfl),
    (h c (4 : Fin 8)).trans (finalA_in m ρ c (4 : Fin 8) rfl),
    (h c (6 : Fin 8)).trans (finalA_in m ρ c (6 : Fin 8) rfl)⟩

/-- The run, read at the arguments and the counters, over any float values. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m ρ h.1, h.2⟩) (run_main m ρ)

/-- The kernel over the extended reals runs, keeps its arguments and ends with every counter at zero. -/
theorem frame_ideal : Cert.quiescent_KernelIdeal := fun m ρ _ => run_kept (F := Ideal) m ρ

set_option maxRecDepth 200000 in
/-- The kernel as printed has the same body table as the kernel over the extended reals: -/
theorem defs₀_eq : Cert.Kernel.defs₀ (F := F) = Cert.KernelIdeal.defs₀ (F := F) := by
  refine congrArg Defs.onTc (funext fun l => funext fun a => ?_)
  match l, a with
  | 0, (t, s) =>
    have h : @Cert.Kernel.cc0_body F _ _ = @Cert.KernelIdeal.cc0_body F _ _ := rfl
    dsimp only
    rw [h]
  | ⟨_ + 1, h⟩, _ => exact absurd h (Nat.not_lt.2 (Nat.le_add_left _ _))
/-- and the same table with the pipeline's labels. -/
theorem defs_eq : Cert.Kernel.defs (F := F) = Cert.KernelIdeal.defs (F := F) := congrArg (Pipeline.defs _) defs₀_eq

set_option maxRecDepth 200000 in
/-- So the kernel as printed, over the machine's floats, runs, keeps its arguments and ends with every counter at zero. -/
theorem frame_kernel : Cert.quiescent_Kernel := by
  intro m ρ _
  rw [defs_eq]
  exact run_kept (F := Bits) m ρ

/-- And so does the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MLP

end
-- ==== Proof.Ideal.lean ====
/-
# A layer over the extended reals

What each device's partial product is, and that the layer's sum on device `c` is the sum over the sixteen devices of their
partial products for `c`.
-/
module

public import proofs.«01_k».proof.Proof.Regions
public import Idealize.ShloMosaic.Lib.MatmulPlain
public import Idealize.ShloMosaic.Lib.ValueIdx

@[expose] public section

set_option maxRecDepth 16384

noncomputable section

namespace Cert.MLP

open Cert.KernelIdeal Cert.KernelIdeal.Gen
open Idealize.ShloMosaic Idealize.ShloMosaic.ValueIdx
open scoped BigOperators

/-! ## One partial product -/

/-- The product of a block of `x` with one device's weights, at row `r` and column `b`: the rectified first product times
    the second weights. -/
def prod (x : FVec Ideal S64x1024 .bf16) (wi : FVec Ideal S1024x2048 .bf16) (wo : FVec Ideal S2048x1024 .bf16) (r : Fin 64) (b : Fin 1024) : EReal :=
  ∑ h : Fin 2048, max (∑ k : Fin 1024, x (ix2 r k) * wi (ix2 k h)) 0 * wo (ix2 h b)

/-- Row `64 p + r` of the four blocks loaded as one matrix. -/
def row4 (p : Fin 4) (r : Fin 64) : Fin 256 := ⟨p.val * 64 + r.val, by omega⟩

/-- Row `64 p + r` of the matrix and row `r` of block `p` are at one place. -/
theorem row4_place (p : Fin 4) (r : Fin 64) (k : Fin 1024) :
    (S4x64x1024.rowMajor (ix3 p r k)).val = (S256x1024.rowMajor (ix2 (row4 p r) k)).val := by
  show (Shape.rowMajorPi ![4, 64, 1024] (ix3 p r k)).val = (Shape.rowMajorPi ![256, 1024] (ix2 (row4 p r) k)).val
  rw [Shape.rowMajorPi_succ_val, Shape.rowMajorPi_succ_val, Shape.rowMajorPi_succ_val, Shape.rowMajorPi_succ_val, Shape.rowMajorPi_succ_val]
  show (p.val * (64 * (1024 * 1)) + (r.val * (1024 * 1) + (k.val * 1 + 0)) : ℕ) = (p.val * 64 + r.val) * (1024 * 1) + (k.val * 1 + 0)
  omega

/-- The two products of a group, at row `r` of its block `p`. -/
theorem pay2_apply (v : FVec Ideal S4x64x1024 .bf16) (wi : FVec Ideal S1024x2048 .bf16) (wo : FVec Ideal S2048x1024 .bf16) (p : Fin 4) (r : Fin 64) (b : Fin 1024) :
    k0_pay2 (F := Ideal) v wi wo (ix2 (row4 p r) b) = prod (fun i => v (ix3 p (i 0) (i 1))) wi wo r b := by
  unfold k0_pay2 prod
  simp only [shapeCast_self]
  refine (Ideal.matmul_plain_apply (M := 256) (K := 2048) (N := 1024) none _ _ _ (row4 p r) b).trans ?_
  rw [constant_apply, Ideal.ofBits_zero_f32, zero_add]
  refine Finset.sum_congr rfl fun h _ => ?_
  rw [truncf_apply, maximumf_apply, broadcast_apply]
  refine congrArg₂ (fun a z : EReal => max a z * wo (ix2 h b)) ?_ Ideal.ofBits_zero_f32
  refine (Ideal.matmul_plain_apply (M := 256) (K := 1024) (N := 2048) none _ _ _ (row4 p r) h).trans ?_
  rw [constant_apply, Ideal.ofBits_zero_f32, zero_add]
  refine Finset.sum_congr rfl fun k _ => ?_
  rw [shapeCast_apply _ _ _ _ (row4_place p r k)]

theorem pay3_apply (v : FVec Ideal S4x64x1024 .bf16) (wi : FVec Ideal S1024x2048 .bf16) (wo : FVec Ideal S2048x1024 .bf16) (p : Fin 4) (r : Fin 64) (b : Fin 1024) :
    k0_pay3 (F := Ideal) v wi wo (ix3 p r b) = prod (fun i => v (ix3 p (i 0) (i 1))) wi wo r b := by
  unfold k0_pay3
  simp only [shapeCast_self]
  rw [shapeCast_apply _ _ _ _ (row4_place p r b).symm, pay2_apply]
theorem pay4_apply (v : FVec Ideal S4x64x1024 .bf16) (wi : FVec Ideal S1024x2048 .bf16) (wo : FVec Ideal S2048x1024 .bf16) (p : Fin 4) (r : Fin 64) (b : Fin 1024) :
    k0_pay4 (F := Ideal) v wi wo (ix3 p r b) = prod (fun i => v (ix3 p (i 0) (i 1))) wi wo r b := by
  unfold k0_pay4
  simp only [shapeCast_self]
  rw [shapeCast_apply _ _ _ _ (row4_place p r b).symm, truncf_apply, pay2_apply]

variable (x : Dev nD → Vec Ideal S64x1024 .bf16) (wi : Dev nD → Vec Ideal S1024x2048 .bf16) (wo : Dev nD → Vec Ideal S2048x1024 .bf16) (c : Dev nD)

/-- The place of a slot's row in its group, as loaded, holds the block of the device as many before. -/
theorem gathered4_apply (k : Fin 16) (i : S64x1024.Idx) :
    gathered4 x c (grp k) (ix3 (plc k) (i 0) (i 1)) = x (back c k) i := by
  show gathered x c ((r4 (grp k)).emb (ix3 (plc k) (i 0) (i 1))) = _
  rw [show (r4 (grp k)).emb (ix3 (plc k) (i 0) (i 1)) = ix3 k (i 0) (i 1) from r4_emb (grp k) (ix3 k (i 0) (i 1)) rfl]
  exact congrArg (x (back c k)) (eq_ix2 i).symm

/-- Slot `k` of device `c`'s partial products is the product of its weights with the block of the device `k` before. -/
theorem part_apply (k : Fin 16) (r : Fin 64) (b : Fin 1024) : part x wi wo c (ix3 k r b) = prod (x (back c k)) (wi c) (wo c) r b := by
  refine (pay3_apply _ _ _ (plc k) r b).trans ?_
  exact congrArg (fun y => prod y (wi c) (wo c) r b) (funext (gathered4_apply x c k))
theorem partB_apply (k : Fin 16) (r : Fin 64) (b : Fin 1024) : partB x wi wo c (ix3 k r b) = prod (x (back c k)) (wi c) (wo c) r b := by
  refine (pay4_apply _ _ _ (plc k) r b).trans ?_
  exact congrArg (fun y => prod y (wi c) (wo c) r b) (funext (gathered4_apply x c k))

/-! ## The layer's sum -/

/-- The sum's start is device `c`'s own partial product for its block; -/
theorem own_apply (r : Fin 64) (b : Fin 1024) :
    addOwn (aM.view.readAt (Elt Ideal) (r16 0).toLoadRect (part x wi wo c)) (ix2 r b) = prod (x c) (wi c) (wo c) r b := by
  unfold addOwn
  rw [shapeCast_dropUnit_apply ![64, 1024]]
  refine (congrArg (part x wi wo c) (r16_emb (ix3 0 r b) 0 rfl)).trans ?_
  rw [part_apply, back_zero]

/-- what arrives in slot `k` is the partial product for `c` of the device `k + 1` after. -/
theorem recvd_apply (k : Fin 15) (r : Fin 64) (b : Fin 1024) :
    shapeCast S64x1024 (recvdAt x wi wo c k) shapeCasts_S1x64x1024_S64x1024 (ix2 r b) = prod (x c) (wi (up c k)) (wo (up c k)) r b := by
  rw [shapeCast_dropUnit_apply ![64, 1024]]
  show recvd x wi wo c ((r15 k).emb (Fin.cons _ (ix2 r b))) = _
  have e : (r15 k).emb (Fin.cons ⟨0, Nat.one_pos⟩ (ix2 r b)) = (ix3 k r b : S15x64x1024.Idx) := by
    funext a; refine Fin.ext ?_
    match a with
    | ⟨0, _⟩ => show k.val + 1 * 0 = k.val; omega
    | ⟨1, _⟩ => show 0 + 1 * r.val = r.val; omega
    | ⟨2, _⟩ => show 0 + 1 * b.val = b.val; omega
  rw [e]
  show partB x wi wo (up c k) (ix3 k.succ r b) = _
  rw [partB_apply, back_succ, dn_up]

/-- Added in order, the received ones come to their sum. -/
theorem fold_apply (l : List (Fin 15)) (y : FVec Ideal S64x1024 .f32) (r : Fin 64) (b : Fin 1024) :
    l.foldl (fun y k => addIn y (recvdAt x wi wo c k)) y (ix2 r b) = y (ix2 r b) + (l.map fun k => prod (x c) (wi (up c k)) (wo (up c k)) r b).sum := by
  induction l generalizing y with
  | nil => simp
  | cons k l ih =>
    rw [List.foldl_cons, ih, List.map_cons, List.sum_cons, ← add_assoc]
    congr 1
    show y (ix2 r b) + shapeCast S64x1024 (recvdAt x wi wo c k) shapeCasts_S1x64x1024_S64x1024 (ix2 r b) = _
    rw [recvd_apply]

/-- The device `j` after `c`, `j` up to fifteen. -/
def ahead (c : Dev nD) (j : Fin 16) : Dev nD := ⟨(c.val + j.val) % 16, Nat.mod_lt _ (by decide)⟩
theorem ahead_zero : ahead c 0 = c := by revert c; decide
theorem ahead_succ (k : Fin 15) : ahead c k.succ = up c k := by revert c k; decide
theorem ahead_bijective : Function.Bijective (ahead c) := by
  refine Finite.injective_iff_bijective.mp fun j j' h => Fin.ext ?_
  have h' : (c.val + j.val) % 16 = (c.val + j'.val) % 16 := congrArg Fin.val h
  omega

/-- The layer's sum on device `c` is the sum over all the devices of their products for `c`. -/
theorem total_apply (r : Fin 64) (b : Fin 1024) : total x wi wo c (ix2 r b) = ∑ d : Dev nD, prod (x c) (wi d) (wo d) r b := by
  unfold total
  rw [fold_apply, own_apply, ← (ahead_bijective c).sum_comp (fun d => prod (x c) (wi d) (wo d) r b), Fin.sum_univ_succ, ahead_zero]
  rfl

end Cert.MLP

end
-- ==== Proof.Whole.lean ====
/-
# A layer of the reference

The layer on whole arrays over the extended reals, and that its row blocks are the sums of the devices' products of their
blocks.
-/
module

public import proofs.«01_k».proof.Proof.Ideal
public import proofs.«01_k».proof.Proof.Gen.ReferenceIdeal.Run
public import Idealize.ShloMosaic.Lib.Layout
public import Idealize.ShloMosaic.Lib.StackMember
public import Idealize.ShloMosaic.Lib.IdealHost
public import Mathlib.Logic.Equiv.Fin.Basic

@[expose] public section

set_option maxRecDepth 16384

noncomputable section

namespace Cert.MLP

open Idealize.ShloMosaic Idealize.ShloMosaic.ValueIdx
open scoped BigOperators

/-! ## The layer on whole arrays -/

/-- The shapes of the whole arrays. -/
abbrev WX : Shape := ⟨2, ![1024, 1024]⟩
@[inherit_doc WX] abbrev WI : Shape := ⟨2, ![1024, 32768]⟩
@[inherit_doc WX] abbrev WO : Shape := ⟨2, ![32768, 1024]⟩

/-- A layer's result, entry by entry: the rectified first product times the second weights. -/
def whole (x : WX.Idx → EReal) (wi : WI.Idx → EReal) (wo : WO.Idx → EReal) : WX.Idx → EReal := fun i =>
  ∑ h : Fin 32768, max (∑ k : Fin 1024, x (ix2 (i 0) k) * wi (ix2 k h)) 0 * wo (ix2 h (i 1))

section
open Cert.ReferenceIdeal Cert.ReferenceIdeal.Gen

/-- The operations of a layer in the reference, up to the rounding of its result, compute it. -/
theorem whole_eq (x : FVec Ideal WX .f32) (wi : FVec Ideal WI .bf16) (wo : FVec Ideal WO .bf16) :
    (Host.dotGeneral dot_S1024x32768_S32768x1024_S1024x1024_1_0_0_1_n_n none
      (extf .f32 (maximumf (truncf .bf16
        (Host.dotGeneral dot_S1024x1024_S1024x32768_S1024x32768_1_0_0_1_n_n none x (extf .f32 wi bitsLt_bf16_f32))
        bitsLt_bf16_f32)
        (broadcastInDim S1024x32768 ![] bcast_S_S1024x32768 (constant S_ .bf16 0x0000#16)))
        bitsLt_bf16_f32)
      (extf .f32 wo bitsLt_bf16_f32) : FVec Ideal WX .f32) = whole x wi wo := by
  funext i
  rw [eq_ix2 i]
  refine (StackMember.dotGeneral_plain_apply (m := 1024) (k := 32768) (n := 1024) none _ _ (i 0) (i 1)).trans ?_
  refine Finset.sum_congr rfl fun h _ => ?_
  rw [extf_apply, extf_apply, maximumf_apply, truncf_apply]
  refine congrArg₂ (fun a z : EReal => max a z * wo (ix2 h (i 1))) ?_ Ideal.ofBits_zero_bf16
  refine (StackMember.dotGeneral_plain_apply (m := 1024) (k := 1024) (n := 32768) none _ _ (i 0) h).trans ?_
  exact Finset.sum_congr rfl fun k _ => by rw [extf_apply]

/-- The reference's operations of one layer, its result rounded and widened again. -/
def layerOps (x : FVec Ideal WX .f32) (wi : FVec Ideal WI .bf16) (wo : FVec Ideal WO .bf16) : FVec Ideal WX .f32 :=
  extf .f32 (truncf .bf16
    (Host.dotGeneral dot_S1024x32768_S32768x1024_S1024x1024_1_0_0_1_n_n none
      (extf .f32 (maximumf (truncf .bf16
        (Host.dotGeneral dot_S1024x1024_S1024x32768_S1024x32768_1_0_0_1_n_n none x (extf .f32 wi bitsLt_bf16_f32))
        bitsLt_bf16_f32)
        (broadcastInDim S1024x32768 ![] bcast_S_S1024x32768 (constant S_ .bf16 0x0000#16)))
        bitsLt_bf16_f32)
      (extf .f32 wo bitsLt_bf16_f32)) bitsLt_bf16_f32) bitsLt_bf16_f32

/-- They compute the layer: over the extended reals a change of format is the identity. -/
theorem layerOps_eq (x : FVec Ideal WX .f32) (wi : FVec Ideal WI .bf16) (wo : FVec Ideal WO .bf16) : layerOps x wi wo = whole x wi wo :=
  whole_eq x wi wo

/-- The three layers one after the other. -/
theorem layersOps_eq (X : FVec Ideal WX .bf16) (A₀ A₁ A₂ : FVec Ideal WI .bf16) (B₀ B₁ B₂ : FVec Ideal WO .bf16) :
    layerOps (layerOps (layerOps (extf .f32 X bitsLt_bf16_f32) A₀ B₀) A₁ B₁) A₂ B₂ = whole (whole (whole X A₀ B₀) A₁ B₁) A₂ B₂ := by
  rw [layerOps_eq, layerOps_eq, layerOps_eq]
  rfl

end

/-! ## Its row blocks -/

/-- Block `c` of sixteen of the rows of `x`, of the columns of the first weights, and of the rows of the second. -/
abbrev xBlock (X : WX.Idx → EReal) (c : Fin 16) : (⟨2, ![64, 1024]⟩ : Shape).Idx → EReal := Layout.block ⟨2, ![64, 1024]⟩ ⟨2, ![1024, 1024]⟩ 0 16 c X
@[inherit_doc xBlock] abbrev wiBlock (W : WI.Idx → EReal) (c : Fin 16) : (⟨2, ![1024, 2048]⟩ : Shape).Idx → EReal := Layout.block ⟨2, ![1024, 2048]⟩ ⟨2, ![1024, 32768]⟩ 1 16 c W
@[inherit_doc xBlock] abbrev woBlock (W : WO.Idx → EReal) (c : Fin 16) : (⟨2, ![2048, 1024]⟩ : Shape).Idx → EReal := Layout.block ⟨2, ![2048, 1024]⟩ ⟨2, ![32768, 1024]⟩ 0 16 c W

/-- Row `64 c + r` of the whole, and hidden column `2048 d + h`. -/
def rowOf (c : Fin 16) (r : Fin 64) : Fin 1024 := ⟨c.val * 64 + r.val, by omega⟩
@[inherit_doc rowOf] def hidOf (d : Fin 16) (h : Fin 2048) : Fin 32768 := ⟨d.val * 2048 + h.val, by omega⟩

theorem xBlock_apply (X : WX.Idx → EReal) (c : Fin 16) (r : Fin 64) (k : Fin 1024) : xBlock X c (ix2 r k) = X (ix2 (rowOf c r) k) :=
  congrArg X (by funext a; match a with | ⟨0, _⟩ => rfl | ⟨1, _⟩ => rfl)
theorem wiBlock_apply (W : WI.Idx → EReal) (d : Fin 16) (k : Fin 1024) (h : Fin 2048) : wiBlock W d (ix2 k h) = W (ix2 k (hidOf d h)) :=
  congrArg W (by funext a; match a with | ⟨0, _⟩ => rfl | ⟨1, _⟩ => rfl)
theorem woBlock_apply (W : WO.Idx → EReal) (d : Fin 16) (h : Fin 2048) (b : Fin 1024) : woBlock W d (ix2 h b) = W (ix2 (hidOf d h) b) :=
  congrArg W (by funext a; match a with | ⟨0, _⟩ => rfl | ⟨1, _⟩ => rfl)

/-- A sum over the hidden columns is the sum over the devices of the sums over their columns. -/
theorem sum_hidden (f : Fin 32768 → EReal) : ∑ h, f h = ∑ d : Fin 16, ∑ h : Fin 2048, f (hidOf d h) := by
  rw [← (finProdFinEquiv (m := 16) (n := 2048)).sum_comp f, Fintype.sum_prod_type]
  refine Finset.sum_congr rfl fun d _ => Finset.sum_congr rfl fun h _ => congrArg f (Fin.ext ?_)
  show h.val + 2048 * d.val = d.val * 2048 + h.val
  omega

/-- Block `c` of a layer's result is the sum over the devices of the product of block `c` of `x` with their weights. -/
theorem whole_block (X : WX.Idx → EReal) (A : WI.Idx → EReal) (B : WO.Idx → EReal) (c : Fin 16) (r : Fin 64) (b : Fin 1024) :
    xBlock (whole X A B) c (ix2 r b) = ∑ d : Fin 16, prod (xBlock X c) (wiBlock A d) (woBlock B d) r b := by
  rw [xBlock_apply]
  refine (sum_hidden _).trans (Finset.sum_congr rfl fun d _ => Finset.sum_congr rfl fun h _ => ?_)
  rw [woBlock_apply]
  refine congrArg (fun a : EReal => max a 0 * B (ix2 (hidOf d h) b)) (Finset.sum_congr rfl fun k _ => ?_)
  rw [xBlock_apply, wiBlock_apply]

/-- So from blocks of whole arrays the kernel's layer leaves each device its block of the whole layer's result. -/
theorem total_block {x : Dev Cert.KernelIdeal.nD → Vec Ideal Cert.KernelIdeal.S64x1024 .bf16} {wi : Dev Cert.KernelIdeal.nD → Vec Ideal Cert.KernelIdeal.S1024x2048 .bf16}
    {wo : Dev Cert.KernelIdeal.nD → Vec Ideal Cert.KernelIdeal.S2048x1024 .bf16} {X : WX.Idx → EReal} {A : WI.Idx → EReal} {B : WO.Idx → EReal}
    (hx : ∀ c, x c = xBlock X c) (hwi : ∀ c, wi c = wiBlock A c) (hwo : ∀ c, wo c = woBlock B c) (c : Dev Cert.KernelIdeal.nD) :
    total x wi wo c = xBlock (whole X A B) c := by
  funext i
  rw [eq_ix2 i]
  refine (total_apply x wi wo c (i 0) (i 1)).trans (.trans ?_ (whole_block X A B c (i 0) (i 1)).symm)
  exact Finset.sum_congr rfl fun d _ => by rw [hx, hwi, hwo]

end Cert.MLP

end
-- ==== Proof.Value.lean ====
/-
# The value

What each device's result array holds after the run, over the extended reals: its row block of the reference's result.
-/
module

public import proofs.«01_k».proof.Proof.Frames
public import proofs.«01_k».proof.Proof.Whole

@[expose] public section

set_option maxRecDepth 16384

noncomputable section

namespace Cert.MLP

open Cert.KernelIdeal Cert.KernelIdeal.Gen
open Idealize.ShloMosaic Idealize.ShloMosaic.TcCoe Idealize.SL.Sem

/-! ## The launch's inputs and the result's array -/

section
variable {F : FTy → Type} [FloatOps F] (m : (ℓ : Loc nD τ sig) → Buf (Elt F) ℓ) (ρ : Dev nD → PrngReg) (c : Dev nD)

/-- A block as large as its array, at offset zero, reads the array. -/
theorem read_all (b : Ref sig .tc) (off : Fin b.ty.shape.rank → ℕ) (h : ∀ a, off a = 0)
    (f : b.ty.Contents (Elt F)) : (((Memref.whole b).access (Rect.unit off b.ty.shape.size fun a => by rw [h a, Nat.zero_add])) : View sig .tc _ _ _).read (Elt F) f = f :=
  Memref.read_access_unit_zero (Elt F) b (funext h) _ f

/-- So what each input window fetches is its argument. -/
theorem x_eq : (inputs m ρ).x c = m ((c : Thread nD τ).loc main_arg0) :=
  show (win0_0.blk (0 : Fin 1)).view.read (Elt F) (m ((c : Thread nD τ).loc main_arg0)) = _ from
    read_all main_arg0 (fun a => win0_0.index (0 : Fin 1) a * main_arg0.ty.shape.size a) (by decide) _
theorem wi0_eq : (inputs m ρ).wi 0 c = m ((c : Thread nD τ).loc main_arg1) :=
  show (win0_1.blk (0 : Fin 1)).view.read (Elt F) (m ((c : Thread nD τ).loc main_arg1)) = _ from
    read_all main_arg1 (fun a => win0_1.index (0 : Fin 1) a * main_arg1.ty.shape.size a) (by decide) _
theorem wi1_eq : (inputs m ρ).wi 1 c = m ((c : Thread nD τ).loc main_arg2) :=
  show (win0_3.blk (0 : Fin 1)).view.read (Elt F) (m ((c : Thread nD τ).loc main_arg2)) = _ from
    read_all main_arg2 (fun a => win0_3.index (0 : Fin 1) a * main_arg2.ty.shape.size a) (by decide) _
theorem wi2_eq : (inputs m ρ).wi 2 c = m ((c : Thread nD τ).loc main_arg3) :=
  show (win0_5.blk (0 : Fin 1)).view.read (Elt F) (m ((c : Thread nD τ).loc main_arg3)) = _ from
    read_all main_arg3 (fun a => win0_5.index (0 : Fin 1) a * main_arg3.ty.shape.size a) (by decide) _
theorem wo0_eq : (inputs m ρ).wo 0 c = m ((c : Thread nD τ).loc main_arg4) :=
  show (win0_2.blk (0 : Fin 1)).view.read (Elt F) (m ((c : Thread nD τ).loc main_arg4)) = _ from
    read_all main_arg4 (fun a => win0_2.index (0 : Fin 1) a * main_arg4.ty.shape.size a) (by decide) _
theorem wo1_eq : (inputs m ρ).wo 1 c = m ((c : Thread nD τ).loc main_arg5) :=
  show (win0_4.blk (0 : Fin 1)).view.read (Elt F) (m ((c : Thread nD τ).loc main_arg5)) = _ from
    read_all main_arg5 (fun a => win0_4.index (0 : Fin 1) a * main_arg5.ty.shape.size a) (by decide) _
theorem wo2_eq : (inputs m ρ).wo 2 c = m ((c : Thread nD τ).loc main_arg6) :=
  show (win0_6.blk (0 : Fin 1)).view.read (Elt F) (m ((c : Thread nD τ).loc main_arg6)) = _ from
    read_all main_arg6 (fun a => win0_6.index (0 : Fin 1) a * main_arg6.ty.shape.size a) (by decide) _

/-- The result's array ends at the last layer's sum. -/
theorem final_out : finalA m ρ c (7 : Fin 8) = (inputs m ρ).Y 2 c := by
  refine (read_all (F := F) main_v1 (fun a => win0_7.index (0 : Fin 1) a * main_v1.ty.shape.size a) (by decide) _).symm.trans ?_
  show (win0_7.blk (0 : Fin 1)).view.read (Elt F) (finalA m ρ c (7 : Fin 8)) = _
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  exact View.read_write_univ _ _
end

/-! ## The kernel's result -/

/-- If the devices start from blocks of whole arrays, each ends with its block of the three layers' result. -/
theorem out_block {I : Inputs Ideal} {X : WX.Idx → EReal} {A₀ A₁ A₂ : WI.Idx → EReal} {B₀ B₁ B₂ : WO.Idx → EReal}
    (hx : ∀ c, I.x c = xBlock X c) (hA₀ : ∀ c, I.wi 0 c = wiBlock A₀ c) (hA₁ : ∀ c, I.wi 1 c = wiBlock A₁ c) (hA₂ : ∀ c, I.wi 2 c = wiBlock A₂ c)
    (hB₀ : ∀ c, I.wo 0 c = woBlock B₀ c) (hB₁ : ∀ c, I.wo 1 c = woBlock B₁ c) (hB₂ : ∀ c, I.wo 2 c = woBlock B₂ c) (c : Dev nD) :
    I.Y 2 c = xBlock (whole (whole (whole X A₀ B₀) A₁ B₁) A₂ B₂) c :=
  total_block (total_block (total_block hx hA₀ hB₀) hA₁ hB₁) hA₂ hB₂ c

/-- The value: if the devices' arguments are blocks of the reference's, the kernel leaves each device its block of rows of
the reference's result, and both keep their arguments. -/
theorem algebraic : Cert.algebraic_KernelIdeal_ReferenceIdeal := fun m g m' g' _ hag =>
  ⟨_, (θ_run Cert.KernelIdeal.defs _ _).mono (fun _ h c => ⟨(h.1 c (7 : Fin 8)).trans ((final_out (F := Ideal) m g c).trans (out_block
        (fun c => (x_eq m g c).trans (hag c).1) (fun c => (wi0_eq m g c).trans (hag c).2.1)
        (fun c => (wi1_eq m g c).trans (hag c).2.2.1) (fun c => (wi2_eq m g c).trans (hag c).2.2.2.1)
        (fun c => (wo0_eq m g c).trans (hag c).2.2.2.2.1) (fun c => (wo1_eq m g c).trans (hag c).2.2.2.2.2.1)
        (fun c => (wo2_eq m g c).trans (hag c).2.2.2.2.2.2) c)), args_kept m g h.1 c⟩) (run_main (F := Ideal) m g),
    (θ_run Cert.ReferenceIdeal.defs _ _).mono (fun _ h => ⟨(h 0).1.trans (layersOps_eq _ _ _ _ _ _ _), (h 0).2⟩)
      (Cert.ReferenceIdeal.Value.run (F := Ideal) m' g')⟩

end Cert.MLP

end
-- ==== Proof.lean ====
/-
# The certificate

The witnesses of the programs' stated facts, then the claims: the three frames (Proof/Frames.lean), that the ideal
reading rewrites nothing, and the value (Proof/Value.lean).
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.MLP.frame_kernel, Cert.MLP.frame_ideal, Cert.MLP.frame_reference, trivial,
    Cert.MLP.algebraic⟩

end Cert.Proof

end
